-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_top_score_KernelIdeal [hPre_finite_top_score_KernelIdeal : Cert.Pre_finite_top_score_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_top_score_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_top_score_ReferenceIdeal [hPre_finite_top_score_ReferenceIdeal : Cert.Pre_finite_top_score_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_top_score_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_top_score_KernelIdeal [hKernelIdeal : Cert.KernelIdeal.Facts] [hPre_finite_top_score_KernelIdeal : Cert.Pre_finite_top_score_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_top_score_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_top_score_ReferenceIdeal [hReferenceIdeal : Cert.ReferenceIdeal.Facts] [hPre_finite_top_score_ReferenceIdeal : Cert.Pre_finite_top_score_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_top_score_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_top_score_KernelIdeal [hKernelIdeal : Cert.KernelIdeal.Facts] [hReferenceIdeal : Cert.ReferenceIdeal.Facts] [hPre_finite_top_score_KernelIdeal : Cert.Pre_finite_top_score_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_top_score_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![8, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_top_score_KernelIdeal : Cert.Pre_finite_top_score_KernelIdeal.Facts) (hPre_finite_top_score_ReferenceIdeal : Cert.Pre_finite_top_score_ReferenceIdeal.Facts),
    quiescent_Kernel (hKernel := hKernel)
    ∧ quiescent_KernelIdeal (hKernelIdeal := hKernelIdeal)
    ∧ quiescent_KernelIdeal_pre_finite_top_score_KernelIdeal (hKernelIdeal := hKernelIdeal) (hPre_finite_top_score_KernelIdeal := hPre_finite_top_score_KernelIdeal)
    ∧ quiescent_ReferenceIdeal (hReferenceIdeal := hReferenceIdeal)
    ∧ quiescent_ReferenceIdeal_pre_finite_top_score_ReferenceIdeal (hReferenceIdeal := hReferenceIdeal) (hPre_finite_top_score_ReferenceIdeal := hPre_finite_top_score_ReferenceIdeal)
    ∧ preserves_Kernel_KernelIdeal
    ∧ algebraic_KernelIdeal_ReferenceIdeal_pre_finite_top_score_KernelIdeal (hKernelIdeal := hKernelIdeal) (hReferenceIdeal := hReferenceIdeal) (hPre_finite_top_score_KernelIdeal := hPre_finite_top_score_KernelIdeal)
-- ==== Pre_finite_top_score_KernelIdeal.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S512x8 : Shape := ⟨2, ![512, 8]⟩
abbrev S_ : Shape := ⟨0, ![]⟩
abbrev S512 : Shape := ⟨1, ![512]⟩

class Facts : Prop where
  reducesTo_S512x8_S512_d1 : S512x8.ReducesTo [1] S512
  h_S_ : 0 < S_.numel
  bcast_S_S512 : S_.BroadcastsInDim S512 (![] : Fin 0 → Fin S512.rank)
  dot_S512x256_S256x8_S512x8_1_0_0_1_n_n_wf : DotDims.WF S512x256 S256x8 S512x8 [1] [0] [0] [1] [] []

variable [Facts]

def dot_S512x256_S256x8_S512x8_1_0_0_1_n_n : DotDims S512x256 S256x8 S512x8 where
  lhsContracting := [1]
  rhsContracting := [0]
  lhsNonContracting := [0]
  rhsNonContracting := [1]
  lhsBatch := []
  rhsBatch := []
  wf := dot_S512x256_S256x8_S512x8_1_0_0_1_n_n_wf
def fn {F : FTy → Type} [FloatOps F] (main_arg0 : FVec F S512x256 .f32) (main_arg1 : FVec F S256x8 .f32) (main_arg2 : IVec S512x1 32) (main_arg3 : FVec F S2x256x512 .f32) (main_arg4 : FVec F S256x512 .f32) : IVec S512 1 :=
  let main_v0 : FVec F S512x8 .f32 := (fun l r => Host.dotGeneral dot_S512x256_S256x8_S512x8_1_0_0_1_n_n none l r) main_arg0 main_arg1
  let main_cst : FVec F S_ .f32 := constant S_ .f32 0xFF800000#32
  let main_v1 : FVec F S512 .f32 := (fun x v => Host.reduce FloatOps.maximumf x v reducesTo_S512x8_S512_d1 h_S_) main_v0 main_cst
  let main_v2 : FVec F S512 .f32 := Host.absf main_v1
  let main_cst_0 : FVec F S_ .f32 := constant S_ .f32 0x7F800000#32
  let main_v3 : FVec F S512 .f32 := broadcastInDim S512 ![] bcast_S_S512 main_cst_0
  let main_v4 : IVec S512 1 := cmpf .olt main_v2 main_v3
  main_v4
-- ==== Pre_finite_top_score_ReferenceIdeal.lean ====
abbrev S2048x256 : Shape := ⟨2, ![2048, 256]⟩
abbrev S256x8 : Shape := ⟨2, ![256, 8]⟩
abbrev S2048x1 : Shape := ⟨2, ![2048, 1]⟩
abbrev S8x256x512 : Shape := ⟨3, ![8, 256, 512]⟩
abbrev S256x512 : Shape := ⟨2, ![256, 512]⟩
abbrev S2048x8 : Shape := ⟨2, ![2048, 8]⟩
abbrev S_ : Shape := ⟨0, ![]⟩
abbrev S2048 : Shape := ⟨1, ![2048]⟩

class Facts : Prop where
  reducesTo_S2048x8_S2048_d1 : S2048x8.ReducesTo [1] S2048
  h_S_ : 0 < S_.numel
  bcast_S_S2048 : S_.BroadcastsInDim S2048 (![] : Fin 0 → Fin S2048.rank)
  dot_S2048x256_S256x8_S2048x8_1_0_0_1_n_n_wf : DotDims.WF S2048x256 S256x8 S2048x8 [1] [0] [0] [1] [] []

variable [Facts]

def dot_S2048x256_S256x8_S2048x8_1_0_0_1_n_n : DotDims S2048x256 S256x8 S2048x8 where
  lhsContracting := [1]
  rhsContracting := [0]
  lhsNonContracting := [0]
  rhsNonContracting := [1]
  lhsBatch := []
  rhsBatch := []
  wf := dot_S2048x256_S256x8_S2048x8_1_0_0_1_n_n_wf
def fn {F : FTy → Type} [FloatOps F] (main_arg0 : FVec F S2048x256 .f32) (main_arg1 : FVec F S256x8 .f32) (main_arg2 : IVec S2048x1 32) (main_arg3 : FVec F S8x256x512 .f32) (main_arg4 : FVec F S256x512 .f32) : IVec S2048 1 :=
  let main_v0 : FVec F S2048x8 .f32 := (fun l r => Host.dotGeneral dot_S2048x256_S256x8_S2048x8_1_0_0_1_n_n none l r) main_arg0 main_arg1
  let main_cst : FVec F S_ .f32 := constant S_ .f32 0xFF800000#32
  let main_v1 : FVec F S2048 .f32 := (fun x v => Host.reduce FloatOps.maximumf x v reducesTo_S2048x8_S2048_d1 h_S_) main_v0 main_cst
  let main_v2 : FVec F S2048 .f32 := Host.absf main_v1
  let main_cst_0 : FVec F S_ .f32 := constant S_ .f32 0x7F800000#32
  let main_v3 : FVec F S2048 .f32 := broadcastInDim S2048 ![] bcast_S_S2048 main_cst_0
  let main_v4 : IVec S2048 1 := cmpf .olt main_v2 main_v3
  main_v4
-- ==== Kernel.lean ====
abbrev S512x256 : Shape := ⟨2, ![512, 256]⟩
abbrev S256x8 : Shape := ⟨2, ![256, 8]⟩
abbrev S512x1 : Shape := ⟨2, ![512, 1]⟩
abbrev S2x256x512 : Shape := ⟨3, ![2, 256, 512]⟩
abbrev S256x512 : Shape := ⟨2, ![256, 512]⟩
abbrev S512x8 : Shape := ⟨2, ![512, 8]⟩
abbrev S_ : Shape := ⟨0, ![]⟩
abbrev S512 : Shape := ⟨1, ![512]⟩
abbrev S512x512 : Shape := ⟨2, ![512, 512]⟩
abbrev S6 : Shape := ⟨1, ![6]⟩
abbrev S1 : Shape := ⟨1, ![1]⟩
abbrev S1x256x512 : Shape := ⟨3, ![1, 256, 512]⟩

abbrev nBuf : Space → Nat
  | .hbm => 28
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x8, .f32⟩
  | .hbm, ⟨2, _⟩ => ⟨S512x1, .i32⟩
  | .hbm, ⟨3, _⟩ => ⟨S2x256x512, .f32⟩
  | .hbm, ⟨4, _⟩ => ⟨S256x512, .f32⟩
  | .hbm, ⟨5, _⟩ => ⟨S512x8, .f32⟩
  | .hbm, ⟨6, _⟩ => ⟨S_, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512x1, .f32⟩
  | .hbm, ⟨12, _⟩ => ⟨S512x8, .f32⟩
  | .hbm, ⟨13, _⟩ => ⟨S512x8, .f32⟩
  | .hbm, ⟨14, _⟩ => ⟨S512x8, .f32⟩
  | .hbm, ⟨15, _⟩ => ⟨S_, .f32⟩
  | .hbm, ⟨16, _⟩ => ⟨S512, .f32⟩
  | .hbm, ⟨17, _⟩ => ⟨S512x1, .f32⟩
  | .hbm, ⟨18, _⟩ => ⟨S512x8, .f32⟩
  | .hbm, ⟨19, _⟩ => ⟨S512x8, .f32⟩
  | .hbm, ⟨20, _⟩ => ⟨S512x8, .i32⟩
  | .hbm, ⟨21, _⟩ => ⟨S512x8, .i32⟩
  | .hbm, ⟨22, _⟩ => ⟨S512x8, .i1⟩
  | .hbm, ⟨23, _⟩ => ⟨S_, .f32⟩
  | .hbm, ⟨24, _⟩ => ⟨S_, .f32⟩
  | .hbm, ⟨25, _⟩ => ⟨S512x8, .f32⟩
  | .hbm, ⟨26, _⟩ => ⟨S512x8, .f32⟩
  | .hbm, ⟨27, _⟩ => ⟨S512x512, .f32⟩
  | .local _ .vmem, ⟨0, _⟩ => ⟨S512x256, .f32⟩
  | .local _ .vmem, ⟨1, _⟩ => ⟨S512x8, .f32⟩
  | .local _ .vmem, ⟨2, _⟩ => ⟨S2x256x512, .f32⟩
  | .local _ .vmem, ⟨3, _⟩ => ⟨S256x512, .f32⟩
  | .local _ .vmem, ⟨4, _⟩ => ⟨S512x512, .f32⟩
  | .local _ .vmem, ⟨5, _⟩ => ⟨S2x256x512, .fp8e4m3⟩
  | .local _ .vmem, ⟨6, _⟩ => ⟨S2x256x512, .fp8e4m3⟩
  | .local _ .vmem, ⟨7, _⟩ => ⟨S2x256x512, .fp8e4m3⟩
  | .local _ .vmem, ⟨8, _⟩ => ⟨S2x256x512, .fp8e4m3⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_20 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_19 : BitVec 32 := 1#32
  let v21 : BitVec 32 := Scalar.muli v7 c1_i32_19
  let v22 : BitVec 32 := Scalar.addi c0_i32_20 v21
  v22.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_29 : BitVec 32 := 1#32
  let v31 : BitVec 32 := Scalar.muli v5 c1_i32_29
  let v32 : BitVec 32 := Scalar.addi c0_i32_30 v31
  v32.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_39 : BitVec 32 := 1#32
  let v41 : BitVec 32 := Scalar.muli v7 c1_i32_39
  let v42 : BitVec 32 := Scalar.addi c0_i32_40 v41
  v42.toNat
def k0_dev6 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_48 : BitVec 32 := 1#32
  let v51 : BitVec 32 := Scalar.muli v5 c1_i32_48
  let v52 : BitVec 32 := Scalar.addi c0_i32_49 v51
  v52.toNat
def k0_dev7 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_92 : BitVec 32 := 1#32
  let v115 : BitVec 32 := Scalar.muli v7 c1_i32_92
  let v116 : BitVec 32 := Scalar.addi c0_i32_93 v115
  v116.toNat
def k0_dev8 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_111 : BitVec 32 := 1#32
  let v133 : BitVec 32 := Scalar.muli v5 c1_i32_111
  let v134 : BitVec 32 := Scalar.addi c0_i32_112 v133
  v134.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x256 : Shape := ⟨2, ![2048, 256]⟩
abbrev S256x8 : Shape := ⟨2, ![256, 8]⟩
abbrev S2048x1 : Shape := ⟨2, ![2048, 1]⟩
abbrev S8x256x512 : Shape := ⟨3, ![8, 256, 512]⟩
abbrev S256x512 : Shape := ⟨2, ![256, 512]⟩
abbrev S2048x8 : Shape := ⟨2, ![2048, 8]⟩
abbrev S_ : Shape := ⟨0, ![]⟩
abbrev S2048 : Shape := ⟨1, ![2048]⟩
abbrev S2048x512 : Shape := ⟨2, ![2048, 512]⟩
abbrev S2048x2 : Shape := ⟨2, ![2048, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S2048x256x512 : Shape := ⟨3, ![2048, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x8, .f32⟩
  | .hbm, ⟨2, _⟩ => ⟨S2048x1, .i32⟩
  | .hbm, ⟨3, _⟩ => ⟨S8x256x512, .f32⟩
  | .hbm, ⟨4, _⟩ => ⟨S256x512, .f32⟩
  | .hbm, ⟨5, _⟩ => ⟨S2048x8, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x8, .f32⟩
  | .hbm, ⟨10, _⟩ => ⟨S2048x8, .f32⟩
  | .hbm, ⟨11, _⟩ => ⟨S2048x8, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x8, .f32⟩
  | .hbm, ⟨16, _⟩ => ⟨S2048x8, .f32⟩
  | .hbm, ⟨17, _⟩ => ⟨S2048x512, .f32⟩
  | .hbm, ⟨18, _⟩ => ⟨S2048, .i32⟩
  | .hbm, ⟨19, _⟩ => ⟨S2048, .i32⟩
  | .hbm, ⟨20, _⟩ => ⟨S2048x1, .i32⟩
  | .hbm, ⟨21, _⟩ => ⟨S2048x1, .i32⟩
  | .hbm, ⟨22, _⟩ => ⟨S2048x2, .i32⟩
  | .hbm, ⟨23, _⟩ => ⟨S2, .i32⟩
  | .hbm, ⟨24, _⟩ => ⟨S_, .i32⟩
  | .hbm, ⟨25, _⟩ => ⟨S2048x2, .i32⟩
  | .hbm, ⟨26, _⟩ => ⟨S2048x2, .i1⟩
  | .hbm, ⟨27, _⟩ => ⟨S1x2, .i32⟩
  | .hbm, ⟨28, _⟩ => ⟨S2048x2, .i32⟩
  | .hbm, ⟨29, _⟩ => ⟨S2048x2, .i1⟩
  | .hbm, ⟨30, _⟩ => ⟨S2048x2, .i1⟩
  | .hbm, ⟨31, _⟩ => ⟨S_, .i1⟩
  | .hbm, ⟨32, _⟩ => ⟨S2048, .i1⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .i32⟩
  | .hbm, ⟨38, _⟩ => ⟨S1, .i32⟩
  | .hbm, ⟨39, _⟩ => ⟨S_, .i32⟩
  | .hbm, ⟨40, _⟩ => ⟨S2048x1, .i32⟩
  | .hbm, ⟨41, _⟩ => ⟨S2048x1, .i1⟩
  | .hbm, ⟨42, _⟩ => ⟨S1x1, .i32⟩
  | .hbm, ⟨43, _⟩ => ⟨S2048x1, .i32⟩
  | .hbm, ⟨44, _⟩ => ⟨S2048x1, .i1⟩
  | .hbm, ⟨45, _⟩ => ⟨S2048x1, .i1⟩
  | .hbm, ⟨46, _⟩ => ⟨S_, .i1⟩
  | .hbm, ⟨47, _⟩ => ⟨S2048, .i1⟩
  | .hbm, ⟨48, _⟩ => ⟨S2048x256x512, .f32⟩
  | .hbm, ⟨49, _⟩ => ⟨S2048x256x512, .i1⟩
  | .hbm, ⟨50, _⟩ => ⟨S_, .f32⟩
  | .hbm, ⟨51, _⟩ => ⟨S2048x256x512, .f32⟩
  | .hbm, ⟨52, _⟩ => ⟨S2048x256x512, .f32⟩
  | .hbm, ⟨53, _⟩ => ⟨S2048x512, .f32⟩
  | .hbm, ⟨54, _⟩ => ⟨S2048x1, .f32⟩
  | .hbm, ⟨55, _⟩ => ⟨S2048x512, .f32⟩
  | .hbm, ⟨56, _⟩ => ⟨S2048x512, .f32⟩
  | .hbm, ⟨57, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Proof.Protocol.lean ====
/- The protocol of the ring exchange: who writes which slot, who signals whom, with what payload, and in which order of levels.
   Stated over any float values, with `Q c` for what device `c` broadcasts (its two expert matrices). -/
module

public import proofs.«01_k».proof.Proof.Gen.KernelIdeal.Frame
public import proofs.«01_k».proof.Proof.Gen.KernelIdeal.Skeleton
public import Idealize.ShloMosaic.Lib.Rounds
public import Idealize.ShloMosaic.Lib.Pipeline.RegionTalk

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

abbrev U2 : Type := UR sig nD τ × Rounds.URounds (GSem nD τ sig) (Fin 2)

local notation "𝕄" => MT nD τ sig Unit (Elt F) ℕ U2 ℕ

/-- The pipeline library's own copy of the ledger, and the exchange's. -/
abbrev EP : Emb (UR sig nD τ) (MT nD τ sig Unit (Elt F) ℕ U2 ℕ) := embL
abbrev ER : Emb (Rounds.URounds (GSem nD τ sig) (Fin 2)) (MT nD τ sig Unit (Elt F) ℕ U2 ℕ) := embR

/-! ## The ring -/

/-- The device a place down, a place up, and opposite. -/
def lf (c : Dev nD) : Dev nD := ⟨(c.val + 3) % 4, Nat.mod_lt _ (by decide)⟩
def rt (c : Dev nD) : Dev nD := ⟨(c.val + 1) % 4, Nat.mod_lt _ (by decide)⟩
def ac (c : Dev nD) : Dev nD := ⟨(c.val + 2) % 4, Nat.mod_lt _ (by decide)⟩

theorem lf_rt (c : Dev nD) : lf (rt c) = c := by revert c; decide
theorem rt_lf (c : Dev nD) : rt (lf c) = c := by revert c; decide
theorem ac_rt (c : Dev nD) : ac (rt c) = lf c := by revert c; decide
theorem ac_lf (c : Dev nD) : ac (lf c) = rt c := by revert c; decide
theorem lf_ne_rt (c : Dev nD) : lf c ≠ rt c := by revert c; decide

def lfE : Dev nD ≃ Dev nD := ⟨lf, rt, rt_lf, lf_rt⟩
def rtE : Dev nD ≃ Dev nD := ⟨rt, lf, lf_rt, rt_lf⟩

/-- The kernel's device words are the ring's neighbours. -/
theorem dev1_eq (c : Dev nD) (h : k0_dev1 c < nD) : (⟨k0_dev1 c, h⟩ : Dev nD) = lf c := by revert c; decide
theorem dev2_eq (c : Dev nD) (h : k0_dev2 c < nD) : (⟨k0_dev2 c, h⟩ : Dev nD) = rt c := by revert c; decide
theorem dev3_eq (c : Dev nD) (h : k0_dev3 c < nD) : (⟨k0_dev3 c, h⟩ : Dev nD) = rt c := by revert c; decide
theorem dev4_eq (c : Dev nD) (h : k0_dev4 c < nD) : (⟨k0_dev4 c, h⟩ : Dev nD) = lf c := by revert c; decide
theorem dev5_eq (c : Dev nD) (h : k0_dev5 c < nD) : (⟨k0_dev5 c, h⟩ : Dev nD) = rt c := by revert c; decide
theorem dev6_eq (c : Dev nD) (h : k0_dev6 c < nD) : (⟨k0_dev6 c, h⟩ : Dev nD) = lf c := by revert c; decide
theorem dev7_eq (c : Dev nD) (h : k0_dev7 c < nD) : (⟨k0_dev7 c, h⟩ : Dev nD) = rt c := by revert c; decide
theorem dev8_eq (c : Dev nD) (h : k0_dev8 c < nD) : (⟨k0_dev8 c, h⟩ : Dev nD) = lf c := by revert c; decide

/-! ## Cells and slots -/

/-- The six send semaphores and the six receive semaphores, as places of the pool. -/
def sS (k : Fin 6) : DmaSem sig := ⟨5 + k.val, by have := k.isLt; show 5 + k.val < 17; omega⟩
def rS (k : Fin 6) : DmaSem sig := ⟨11 + k.val, by have := k.isLt; show 11 + k.val < 17; omega⟩

abbrev barCell (c : Dev nD) : GSem nD τ sig := ((c : Thread nD τ), .reg barrier0)
abbrev sendCell (c : Dev nD) (k : Fin 6) : GSem nD τ sig := ((c : Thread nD τ), .dma (sS k))
abbrev recvCell (c : Dev nD) (k : Fin 6) : GSem nD τ sig := ((c : Thread nD τ), .dma (rS k))

abbrev qM : Memref sig .tc .vmem S2x256x512 .fp8e4m3 := Memref.whole cc0_scratch0
abbrev lM : Memref sig .tc .vmem S2x256x512 .fp8e4m3 := Memref.whole cc0_scratch1
abbrev rM : Memref sig .tc .vmem S2x256x512 .fp8e4m3 := Memref.whole cc0_scratch2
abbrev oM : Memref sig .tc .vmem S2x256x512 .fp8e4m3 := Memref.whole cc0_scratch3

/-- A buffer's first and second expert slot, as the kernel addresses them. -/
abbrev slot0 (M : Memref sig .tc .vmem S2x256x512 .fp8e4m3) : Memref sig .tc .vmem S256x512 .fp8e4m3 :=
  (M.slice (Rect.unit (s := S2x256x512) ![0, 0, 0] S1x256x512.size inb_S2x256x512_S1x256x512_0_0_0) (fun _ => rfl)).squeeze S256x512 squeezes_S1x256x512_S256x512
abbrev slot1 (M : Memref sig .tc .vmem S2x256x512 .fp8e4m3) : Memref sig .tc .vmem S256x512 .fp8e4m3 :=
  (M.slice (Rect.unit (s := S2x256x512) ![1, 0, 0] S1x256x512.size inb_S2x256x512_S1x256x512_1_0_0) (fun _ => rfl)).squeeze S256x512 squeezes_S1x256x512_S256x512

/-- Device `c`'s memref, its elements at share `q` and contents `f` of the whole buffer. -/
abbrev mPts {s : Shape} (M : Memref sig .tc .vmem s .fp8e4m3) (c : Dev nD) (q : PosShare TreeShare) (f : Buf (Elt F) (M.view.loc (c : Thread nD τ))) : sProp 𝕄 :=
  M.view.loc (c : Thread nD τ) ↦[M.view.set]{q} f

abbrev Bytes (F : FTy → Type) : Type := (⟨S2x256x512, .fp8e4m3⟩ : BufTy).Contents (Elt F)

/-- What a transfer of one slot adds to its cells. -/
abbrev N : ℕ := (slot0 lM).view.dmaCredit
theorem N_pos : 0 < N := View.dmaCredit_pos _ (by decide)

variable (Q : Dev nD → Bytes F)

/-! ## The schedule -/

/-- Paid to device `c`'s barrier by its neighbour up (duty 0): the buffers `c` will write there; by its neighbour down
    (duty 1): the buffers `c` will write there. Each with the receive cells that will be paid being open. -/
def barPay (d : Fin 2) (c : Dev nD) : sProp 𝕄 :=
  if d = 0 then
    iprop((∃ f, mPts (slot0 lM) (rt c) fullShare f) ∗ (∃ f, mPts (slot1 lM) (rt c) fullShare f) ∗ (∃ f, mPts (slot0 oM) (rt c) fullShare f)
      ∗ reached ER (recvCell (rt c) 0) 0 ∗ reached ER (recvCell (rt c) 2) 0 ∗ reached ER (recvCell (rt c) 4) 0)
  else
    iprop((∃ f, mPts (slot1 rM) (lf c) fullShare f) ∗ (∃ f, mPts (slot0 rM) (lf c) fullShare f) ∗ (∃ f, mPts (slot1 oM) (lf c) fullShare f)
      ∗ reached ER (recvCell (lf c) 1) 0 ∗ reached ER (recvCell (lf c) 3) 0 ∗ reached ER (recvCell (lf c) 5) 0)

/-- What comes back with a send, and what comes in with a receive, at the pool's place `i`. -/
def dmaPay (i : ℕ) (c : Dev nD) : sProp 𝕄 :=
  match i with
  | 5 => mPts (slot0 qM) c fullShare.left (Q c)
  | 6 => mPts (slot1 qM) c fullShare.left (Q c)
  | 7 => mPts (slot1 qM) c fullShare.right (Q c)
  | 8 => mPts (slot0 qM) c fullShare.right (Q c)
  | 9 => mPts (slot0 lM) c fullShare.left (Q (lf c))
  | 10 => mPts (slot1 rM) c fullShare.left (Q (rt c))
  | 11 => mPts (slot0 lM) c fullShare (Q (lf c))
  | 12 => mPts (slot1 rM) c fullShare (Q (rt c))
  | 13 => mPts (slot1 lM) c fullShare (Q (lf c))
  | 14 => mPts (slot0 rM) c fullShare (Q (rt c))
  | 15 => mPts (slot0 oM) c fullShare (Q (ac c))
  | 16 => mPts (slot1 oM) c fullShare (Q (ac c))
  | _ => iprop(emp)

/-- One round: two duties of one unit on each barrier, one duty of a slot's credit on each send and receive cell. -/
def rd : Rounds.Schedule (GSem nD τ sig) (Fin 2) 𝕄 where
  duties g r := if r = 0 ∧ g.1.2 = .tc then
      (match g.2 with | .reg _ => {0, 1} | .dma i => if 5 ≤ i.val then {0} else ∅) else ∅
  unitless _ := False
  amount g _ _ := match g.2 with | .reg _ => 1 | .dma _ => N
  payload g _ d := match g.2 with | .reg _ => barPay d g.1.1 | .dma i => dmaPay Q i.val g.1.1
  amount_pos g _ _ _ := by
    cases g.2
    · exact Nat.one_pos
    · exact N_pos

set_option synthInstance.maxHeartbeats 400000 in
instance rd_payload_storable (g : GSem nD τ sig) (r : ℕ) (d : Fin 2) :
    BI.Storable (upEmb : UEmb _ 𝕄) ((rd (F := F) Q).payload g r d) := by
  show BI.Storable upEmb (match g.2 with | .reg _ => barPay d g.1.1 | .dma i => dmaPay Q i.val g.1.1)
  unfold barPay dmaPay
  (repeat' split) <;> infer_instance

theorem duties_bar (c : Dev nD) : (rd (F := F) Q).duties (barCell c) 0 = {0, 1} := rfl
theorem duties_send (c : Dev nD) (k : Fin 6) : (rd (F := F) Q).duties (sendCell c k) 0 = {0} := by
  dsimp only [rd]; rw [if_pos ⟨rfl, rfl⟩]; exact if_pos (by simp only [sS]; omega)
theorem duties_recv (c : Dev nD) (k : Fin 6) : (rd (F := F) Q).duties (recvCell c k) 0 = {0} := by
  dsimp only [rd]; rw [if_pos ⟨rfl, rfl⟩]; exact if_pos (by simp only [rS]; omega)
theorem duties_later (g : GSem nD τ sig) : ∀ r, 1 ≤ r → (rd (F := F) Q).duties g r = ∅ :=
  fun r hr => by dsimp only [rd]; rw [if_neg (fun h => by omega)]

theorem expect_bar (c : Dev nD) : (rd (F := F) Q).expect (barCell c) 0 = 2 := by
  unfold Schedule.expect Schedule.amountOf; rw [duties_bar]; rfl
theorem expect_send (c : Dev nD) (k : Fin 6) : (rd (F := F) Q).expect (sendCell c k) 0 = N := by
  unfold Schedule.expect Schedule.amountOf; rw [duties_send, Finset.sum_singleton]; rfl
theorem expect_recv (c : Dev nD) (k : Fin 6) : (rd (F := F) Q).expect (recvCell c k) 0 = N := by
  unfold Schedule.expect Schedule.amountOf; rw [duties_recv, Finset.sum_singleton]; rfl

theorem rest_bar (c : Dev nD) : bigSep ((rd (F := F) Q).duties (barCell c) 0 \ ∅) (fun d => (rd (F := F) Q).payload (barCell c) 0 d)
    = iprop(barPay 0 c ∗ barPay 1 c) := by
  rw [Finset.sdiff_empty, duties_bar, bigSep_insert (by decide), bigSep_singleton]; rfl
theorem rest_send (c : Dev nD) (k : Fin 6) : bigSep ((rd (F := F) Q).duties (sendCell c k) 0 \ ∅) (fun d => (rd (F := F) Q).payload (sendCell c k) 0 d)
    = dmaPay Q (5 + k.val) c := by
  rw [Finset.sdiff_empty, duties_send, bigSep_singleton]; rfl
theorem rest_recv (c : Dev nD) (k : Fin 6) : bigSep ((rd (F := F) Q).duties (recvCell c k) 0 \ ∅) (fun d => (rd (F := F) Q).payload (recvCell c k) 0 d)
    = dmaPay Q (11 + k.val) c := by
  rw [Finset.sdiff_empty, duties_recv, bigSep_singleton]; rfl

/-! ## What is owed, and the levels of the waits -/

/-- The neighbour transfer `k` goes to: up for the even ones, down for the odd ones. -/
def peer (k : Fin 6) (c : Dev nD) : Dev nD := if k.val % 2 = 0 then rt c else lf c

/-- What device `c` owes its receivers from transfer `k` on. -/
def owe (c : Dev nD) (k : ℕ) : CellTallies nD τ sig Unit :=
  match k with
  | 0 => tallyAt (recvCell (peer 5 c) 5) () N + tallyAt (recvCell (peer 4 c) 4) () N + tallyAt (recvCell (peer 3 c) 3) () N
      + tallyAt (recvCell (peer 2 c) 2) () N + tallyAt (recvCell (peer 1 c) 1) () N + tallyAt (recvCell (peer 0 c) 0) () N
  | 1 => tallyAt (recvCell (peer 5 c) 5) () N + tallyAt (recvCell (peer 4 c) 4) () N + tallyAt (recvCell (peer 3 c) 3) () N
      + tallyAt (recvCell (peer 2 c) 2) () N + tallyAt (recvCell (peer 1 c) 1) () N
  | 2 => tallyAt (recvCell (peer 5 c) 5) () N + tallyAt (recvCell (peer 4 c) 4) () N + tallyAt (recvCell (peer 3 c) 3) () N
      + tallyAt (recvCell (peer 2 c) 2) () N
  | 3 => tallyAt (recvCell (peer 5 c) 5) () N + tallyAt (recvCell (peer 4 c) 4) () N + tallyAt (recvCell (peer 3 c) 3) () N
  | 4 => tallyAt (recvCell (peer 5 c) 5) () N + tallyAt (recvCell (peer 4 c) 4) () N
  | 5 => tallyAt (recvCell (peer 5 c) 5) () N
  | _ => 0
/-- What device `c` owes at launch: the six transfers and a unit to each neighbour's barrier. -/
def O₀ (c : Dev nD) : CellTallies nD τ sig Unit := owe c 0 + tallyAt (barCell (rt c)) () 1 + tallyAt (barCell (lf c)) () 1

def L (g : GSem nD τ sig) : Finset Unit := if g.1.2 = .tc then {()} else ∅
/-- Barriers at 1, the first four receives at 2, the two forwarded ones at 3, everything else at 0. -/
def lv (g : GSem nD τ sig) (_ : Unit) : ℕ :=
  match g.2 with | .reg _ => 1 | .dma i => if i.val < 11 then 0 else if i.val < 15 then 2 else 3

theorem L_of_ne (g : GSem nD τ sig) (h : g.1.2 ≠ .tc) : L g = ∅ := if_neg h
theorem L_tc (c : Dev nD) (sm : SemLoc sig) : L ((c : Thread nD τ), sm) = {()} := if_pos rfl

/-- A tally of credit at a receive cell is positive only there. -/
theorem tally_pos {c : Dev nD} {sm : SemLoc sig} {n : ℕ} {g : GSem nD τ sig} {u : Unit} (h : 0 < tallyAt ((c : Thread nD τ), sm) () n g u) :
    g = ((c : Thread nD τ), sm) := by
  rw [tallyAt_apply] at h
  by_contra hne
  rw [if_neg (fun hh => hne hh.1)] at h
  exact absurd h (Nat.lt_irrefl 0)

theorem owe5_pos {c : Dev nD} {g : GSem nD τ sig} {u : Unit} (h : 0 < owe c 5 g u) : ∃ d, g = recvCell d 5 := ⟨_, tally_pos h⟩
theorem owe4_pos {c : Dev nD} {g : GSem nD τ sig} {u : Unit} (h : 0 < owe c 4 g u) : ∃ d k, 4 ≤ k.val ∧ g = recvCell d k := by
  rcases Nat.add_pos_iff_pos_or_pos.mp (show 0 < owe c 5 g u + tallyAt (recvCell (peer 4 c) 4) () N g u from h) with h | h
  · obtain ⟨d, e⟩ := owe5_pos h; exact ⟨d, 5, by decide, e⟩
  · exact ⟨_, 4, by decide, tally_pos h⟩
theorem owe0_pos {c : Dev nD} {g : GSem nD τ sig} {u : Unit} (h : 0 < owe c 0 g u) : ∃ d k, g = recvCell d k := by
  rcases Nat.add_pos_iff_pos_or_pos.mp (show 0 < owe c 1 g u + tallyAt (recvCell (peer 0 c) 0) () N g u from h) with h | h
  swap; · exact ⟨_, _, tally_pos h⟩
  rcases Nat.add_pos_iff_pos_or_pos.mp (show 0 < owe c 2 g u + tallyAt (recvCell (peer 1 c) 1) () N g u from h) with h | h
  swap; · exact ⟨_, _, tally_pos h⟩
  rcases Nat.add_pos_iff_pos_or_pos.mp (show 0 < owe c 3 g u + tallyAt (recvCell (peer 2 c) 2) () N g u from h) with h | h
  swap; · exact ⟨_, _, tally_pos h⟩
  rcases Nat.add_pos_iff_pos_or_pos.mp (show 0 < owe c 4 g u + tallyAt (recvCell (peer 3 c) 3) () N g u from h) with h | h
  swap; · exact ⟨_, _, tally_pos h⟩
  obtain ⟨d, k, -, e⟩ := owe4_pos h; exact ⟨d, k, e⟩

theorem lv_recv (d : Dev nD) (k : Fin 6) : lv (recvCell d k) () = if k.val < 4 then 2 else 3 := by
  have := k.isLt
  show (if 11 + k.val < 11 then 0 else if 11 + k.val < 15 then 2 else 3) = _
  rw [if_neg (by omega)]; exact if_congr (by omega) rfl rfl

/-- A wait at a level below everything owed may be made. -/
theorem mayWait_of (c : Dev nD) (sm : SemLoc sig) (O : CellTallies nD τ sig Unit)
    (h : ∀ g u, 0 < O g u → (∃ d k, g = recvCell d k) ∧ lv ((c : Thread nD τ), sm) () < lv g ()) :
    (levAts L lv : sProp 𝕄) ⊢ MayWait (c : Thread nD τ) sm () O :=
  MayOwe.of_cut (L := L) (lev := lv) (lv ((c : Thread nD τ), sm) ()) (fun p hp => by rw [Finset.mem_singleton.mp hp, L_tc]; exact Finset.mem_singleton_self _)
    (fun g u hg => by
      obtain ⟨⟨d, k, e⟩, -⟩ := h g u hg
      rw [e, L_tc]; exact Finset.mem_singleton_self _)
    (fun p hp => by rw [Finset.mem_singleton.mp hp])
    (fun g u hg => (h g u hg).2)

theorem mayWait_bar (c : Dev nD) : (levAts L lv : sProp 𝕄) ⊢ MayWait (c : Thread nD τ) (.reg barrier0) () (owe c 0) :=
  mayWait_of c _ _ fun g u hg => by
    obtain ⟨d, k, rfl⟩ := owe0_pos hg
    refine ⟨⟨d, k, rfl⟩, ?_⟩
    rw [lv_recv]; show 1 < _; split <;> decide
theorem mayWait_recv0 (c : Dev nD) : (levAts L lv : sProp 𝕄) ⊢ MayWait (c : Thread nD τ) (.dma (rS 0)) () (owe c 4) :=
  mayWait_of c _ _ fun g u hg => by
    obtain ⟨d, k, hk, rfl⟩ := owe4_pos hg
    refine ⟨⟨d, k, rfl⟩, ?_⟩
    rw [lv_recv d k, if_neg (by omega)]; exact Nat.lt_succ_self 2
theorem mayWait_recv1 (c : Dev nD) : (levAts L lv : sProp 𝕄) ⊢ MayWait (c : Thread nD τ) (.dma (rS 1)) () (owe c 5) :=
  mayWait_of c _ _ fun g u hg => by
    obtain ⟨d, rfl⟩ := owe5_pos hg
    exact ⟨⟨d, 5, rfl⟩, Nat.lt_succ_self 2⟩

/-! ## A slot received holds what the sender's slot held -/

theorem set_slot0 (M : Memref sig .tc .vmem S2x256x512 .fp8e4m3) : (slot0 M).view.set
    = (Rect.unit (s := S2x256x512) ![0, 0, 0] S1x256x512.size inb_S2x256x512_S1x256x512_0_0_0).set.map M.view.emb := by
  rw [← View.set_slice]; exact View.set_reshape _ _

theorem set_slot1 (M : Memref sig .tc .vmem S2x256x512 .fp8e4m3) : (slot1 M).view.set
    = (Rect.unit (s := S2x256x512) ![1, 0, 0] S1x256x512.size inb_S2x256x512_S1x256x512_1_0_0).set.map M.view.emb := by
  rw [← View.set_slice]; exact View.set_reshape _ _

/-- Where a write agrees with the source it copies. -/
theorem landed0 (fd f : Bytes F) : ∀ i ∈ (slot0 lM).view.set,
    (slot0 lM).view.write (Elt F) fd ((slot0 qM).view.read (Elt F) f) Finset.univ i = f i := by
  intro i hi
  obtain ⟨x, -, rfl⟩ := Finset.mem_map.mp hi
  exact View.write_emb_of_mem _ _ (Finset.mem_univ x)

theorem landed1 (fd f : Bytes F) : ∀ i ∈ (slot1 lM).view.set,
    (slot1 lM).view.write (Elt F) fd ((slot1 qM).view.read (Elt F) f) Finset.univ i = f i := by
  intro i hi
  obtain ⟨x, -, rfl⟩ := Finset.mem_map.mp hi
  exact View.write_emb_of_mem _ _ (Finset.mem_univ x)

end Cert.KernelIdeal.Exchange
end
-- ==== Proof.Steps.lean ====
/- Each remote step of the kernel at a symbolic device: the two barrier signals, the barrier's wait, the six transfers, and
   the waits for their arrival and departure, with what each takes and returns. -/
module

public import proofs.«01_k».proof.Proof.Protocol

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ U2 ℕ

variable (Q : Dev nD → Bytes F) (K : GSem nD τ sig → ℕ) (c : Dev nD) (W : Waits sig Unit) {α : Type} (k : PUnit → Prog (TpuEff nD τ sig (Elt F) Λ₀ .tc) α) (Kt : α → sProp (MT nD τ sig Unit (Elt F) ℕ U2 ℕ))

abbrev 𝒱₀ : Variants := Variants.none

/-- What a program must satisfy on device `c` to end in `Kt`. -/
abbrev run (p : Prog (TpuEff nD τ sig (Elt F) Λ₀ .tc) α) : sProp 𝕄 := wp frame (wpE (defs₀ (F := F)) 𝒱₀ (c : Thread nD τ) none) Set.univ p Kt

/-- The invariant of one cell at its name. -/
abbrev ci (g : GSem nD τ sig) : sProp 𝕄 := cellInv ER (rd Q) (K g) g

theorem step_signal_left : iprop(ci Q K (barCell (lf c)) ∗ owes (c : Thread nD τ) (O₀ c) W ∗ dutyTok ER (barCell (lf c)) 0 0 ∗ barPay 0 (lf c) ∗ reached ER (barCell (lf c)) 0)
    ⊢ iprop((owes (c : Thread nD τ) (owe c 0 + tallyAt (barCell (rt c)) () 1) W -∗ run c Kt (k ⟨⟩))
      -∗ run c Kt (.op (.semSignal (lf c : Thread nD τ) barrier0 ((1 : ℕ) : ℤ)) k)) :=
  Rounds.wp_signal 𝒱₀ ER (rd Q) (c : Thread nD τ) none (dst := (lf c : Thread nD τ)) (sem := barrier0) (r := 0) (d := 0) (κ := K (barCell (lf c)))
    (by rw [duties_bar]; decide) rfl () _ rfl

theorem step_signal_right : iprop(ci Q K (barCell (rt c)) ∗ owes (c : Thread nD τ) (owe c 0 + tallyAt (barCell (rt c)) () 1) W ∗ dutyTok ER (barCell (rt c)) 0 1 ∗ barPay 1 (rt c) ∗ reached ER (barCell (rt c)) 0)
    ⊢ iprop((owes (c : Thread nD τ) (owe c 0) W -∗ run c Kt (k ⟨⟩))
      -∗ run c Kt (.op (.semSignal (rt c : Thread nD τ) barrier0 ((1 : ℕ) : ℤ)) k)) :=
  Rounds.wp_signal 𝒱₀ ER (rd Q) (c : Thread nD τ) none (dst := (rt c : Thread nD τ)) (sem := barrier0) (r := 0) (d := 1) (κ := K (barCell (rt c)))
    (by rw [duties_bar]; decide) rfl () _ rfl

theorem step_wait_bar : iprop(ci Q K (barCell c) ∗ cred (tallyAt (barCell c) () 2) ∗ owes (c : Thread nD τ) (owe c 0) W ∗ levAts L lv ∗ atPos ER (barCell c) 0 ∅ 0)
    ⊢ iprop((((∃ W, owes (c : Thread nD τ) (owe c 0) W) ∗ atPos ER (barCell c) 1 ∅ 0 ∗ barPay 0 c ∗ barPay 1 c) -∗ run c Kt (k ⟨⟩))
      -∗ run c Kt (.op (.semWait barrier0 ((2 : ℕ) : ℤ)) k)) := by
  iintro ⟨#HI, Hc, HO, #Hlev, Hat⟩ Hk
  iapply (Rounds.wp_wait_rest_token 𝒱₀ ER (rd Q) (c : Thread nD τ) none (κ := K (barCell c))
      (wpE_semWait_eq 𝒱₀ (c : Thread nD τ) none Set.univ) (Set.mem_univ _) () (O := owe c 0) (W := W) (R := 0) (m := 0) (T := ∅)
      ((Nat.zero_add 2).trans (expect_bar Q c).symm)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  iapply Hk
  isplitl [HO]; · iexists _; iexact HO
  isplitl [Hat]; · iexact Hat
  iapply (Entails.of_eq (rest_bar Q c)) $$ Hpay

/-- The wait for the arrival of transfer `j`, while `O` is owed. -/
theorem step_wait_recv (j : Fin 6) (O : CellTallies nD τ sig Unit) (hO : (levAts L lv : sProp 𝕄) ⊢ MayWait (c : Thread nD τ) (.dma (rS j)) () O)
    {src dst : Memref sig .tc .vmem S256x512 .fp8e4m3} (hsrc : src.view.WordExact) (hdst : dst.view.WordExact) (hN : dst.view.dmaCredit = N) :
    iprop(ci Q K (recvCell c j) ∗ cred (tallyAt (recvCell c j) () N) ∗ owes (c : Thread nD τ) O W ∗ levAts L lv ∗ atPos ER (recvCell c j) 0 ∅ 0)
    ⊢ iprop((((∃ W, owes (c : Thread nD τ) O W) ∗ atPos ER (recvCell c j) 1 ∅ 0 ∗ dmaPay Q (11 + j.val) c) -∗ run c Kt (k ⟨⟩))
      -∗ run c Kt (.op (.waitDma2 (rS j) src dst hsrc hdst) k)) := by
  iintro ⟨#HI, Hc, HO, #Hlev, Hat⟩ Hk
  iapply (Rounds.wp_wait_rest_token 𝒱₀ ER (rd Q) (c : Thread nD τ) none (κ := K (recvCell c j))
      (wpE_waitDma2_eq 𝒱₀ (c : Thread nD τ) none Set.univ) (Set.mem_univ _) () (O := O) (W := W) (R := 0) (m := 0) (T := ∅)
      ((Nat.zero_add _).trans (hN.trans (expect_recv Q c j).symm))) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  iapply Hk
  isplitl [HO]; · iexists _; iexact HO
  isplitl [Hat]; · iexact Hat
  iapply (Entails.of_eq (rest_recv Q c j)) $$ Hpay

/-- The wait for the departure of transfer `j`, nothing owed. -/
theorem step_wait_send (j : Fin 6)
    {src dst : Memref sig .tc .vmem S256x512 .fp8e4m3} (hsrc : src.view.WordExact) (hdst : dst.view.WordExact) (hN : dst.view.dmaCredit = N) :
    iprop(ci Q K (sendCell c j) ∗ cred (tallyAt (sendCell c j) () N) ∗ owes (c : Thread nD τ) 0 W ∗ atPos ER (sendCell c j) 0 ∅ 0)
    ⊢ iprop((((∃ W, owes (c : Thread nD τ) (0 : CellTallies nD τ sig Unit) W) ∗ atPos ER (sendCell c j) 1 ∅ 0 ∗ dmaPay Q (5 + j.val) c) -∗ run c Kt (k ⟨⟩))
      -∗ run c Kt (.op (.waitDma2 (sS j) src dst hsrc hdst) k)) := by
  iintro ⟨#HI, Hc, HO, Hat⟩ Hk
  iapply (Rounds.wp_wait_rest_token 𝒱₀ ER (rd Q) (c : Thread nD τ) none (κ := K (sendCell c j))
      (wpE_waitDma2_eq 𝒱₀ (c : Thread nD τ) none Set.univ) (Set.mem_univ _) () (O := 0) (W := W) (R := 0) (m := 0) (T := ∅)
      ((Nat.zero_add _).trans (hN.trans (expect_send Q c j).symm))) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iapply (Entails.of_eq (rest_send Q c j)) $$ Hpay

/-- Transfer `j` to the neighbour `d`: the source's share comes back with the send cell, the destination, rewritten, with the
    receive cell; what is owed there is paid. -/
theorem step_send (j : Fin 6) (d : Dev nD) {src dst : Memref sig .tc .vmem S256x512 .fp8e4m3} (hsrc : src.view.WordExact) (hdst : dst.view.WordExact)
    {hsc : dst.view.ref.isScScratch = false} {hsem : DmaTarget.Typed .vmem (.dma (rS j)) (.remote (d : Thread nD τ) dst (.dma (sS j)) hsc)} (hN : dst.view.dmaCredit = N)
    (q : PosShare TreeShare) (fs : Buf (Elt F) (src.view.loc (c : Thread nD τ))) (fd : Buf (Elt F) (dst.view.loc (d : Thread nD τ)))
    (O₁ O : CellTallies nD τ sig Unit) (hO : O₁ = O + tallyAt (recvCell d j) () N)
    (hpay₁ : mPts src c q fs ⊢ (dmaPay Q (5 + j.val) c : sProp 𝕄))
    (hpay₂ : mPts dst d fullShare (dst.view.write (Elt F) fd (src.view.read (Elt F) fs) Finset.univ) ⊢ (dmaPay Q (11 + j.val) d : sProp 𝕄)) :
    iprop(ci Q K (sendCell c j) ∗ ci Q K (recvCell d j) ∗ mPts src c q fs ∗ mPts dst d fullShare fd ∗ owes (c : Thread nD τ) O₁ W
        ∗ dutyTok ER (sendCell c j) 0 0 ∗ reached ER (sendCell c j) 0 ∗ dutyTok ER (recvCell d j) 0 0 ∗ reached ER (recvCell d j) 0)
    ⊢ iprop(((cred (tallyAt (sendCell c j) () N) ∗ owes (c : Thread nD τ) O W) -∗ run c Kt (k ⟨⟩))
      -∗ run c Kt (.op (.enqueueDma src (.remote (d : Thread nD τ) dst (.dma (sS j)) hsc) (.dma (rS j)) hsrc hdst hsem) k)) :=
  Rounds.wp_send_pointsTo 𝒱₀ ER (rd Q) (c : Thread nD τ) none (c' := (d : Thread nD τ)) (src := src) (dst := dst)
      (sS := .dma (sS j)) (sem := .dma (rS j)) (q := q) (fs := fs) (κ₁ := K (sendCell c j)) (κ₂ := K (recvCell d j))
      (r₁ := 0) (r₂ := 0) (d₁ := 0) (d₂ := 0) (fd := fd)
      (by rw [duties_send]; decide) (by rw [duties_recv]; decide)
      () () N hN rfl rfl O hO hpay₁ hpay₂

theorem close (κ : ℕ) (g : GSem nD τ sig) : iprop(cellInv ER (rd Q) κ g ∗ atPos ER g 1 ∅ 0) ⊢ (|={Set.univ}=> semVal g 0 : sProp 𝕄) :=
  Rounds.cell_close ER (rd Q) (Set.mem_univ κ) id (duties_later Q g)

end Cert.KernelIdeal.Exchange
end
-- ==== Proof.Slots.lean ====
/- The local steps of the kernel: loads and stores through whole windows and through one expert slot, how a scratch buffer
   splits into its two slots, and what each transfer leaves in its destination. -/
module

public import proofs.«01_k».proof.Proof.Steps

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Facts₀ Cert.KernelIdeal.Facts

variable {F : FTy → Type} [FloatOps F]

local notation "𝕄" => MT nD τ sig Unit (Elt F) ℕ U2 ℕ

/-- The two slots' rectangles of a buffer of two experts. -/
abbrev R0 : Rect S2x256x512 := Rect.unit (s := S2x256x512) ![0, 0, 0] S1x256x512.size inb_S2x256x512_S1x256x512_0_0_0
abbrev R1 : Rect S2x256x512 := Rect.unit (s := S2x256x512) ![1, 0, 0] S1x256x512.size inb_S2x256x512_S1x256x512_1_0_0

/-- The part of a buffer of two experts that one rectangle covers. -/
abbrev cut {e : EltTy} (r : Rect S2x256x512) (f : S2x256x512.Idx → Elt F e) : r.shape.Idx → Elt F e := fun i => f (r.emb i)

/-- A rectangle that begins at zero and has the full size renames nothing. -/
theorem emb_full {s : Shape} (off : Fin s.rank → ℕ) (h0 : ∀ a, off a = 0) (inb : ∀ a, off a + s.size a ≤ s.size a)
    (i : (Rect.unit (s := s) off s.size inb).shape.Idx) : (Rect.unit (s := s) off s.size inb).emb i = i := by
  funext a; apply Fin.ext; simp [Rect.emb, Rect.unit, h0]

theorem R_cover : R0.set ∪ R1.set = Finset.univ := by
  ext i; simp only [Finset.mem_union, Rect.mem_set_unit, Finset.mem_univ, iff_true]
  by_cases h : (i 0).val = 0
  · left; intro a
    have := (i a).isLt
    fin_cases a <;> simp_all <;> exact this
  · right; intro a
    have h2 : (i 0).val < 2 := (i 0).isLt
    have := (i a).isLt
    fin_cases a
    · show 1 ≤ (i 0).val ∧ (i 0).val < 1 + 1; omega
    · exact ⟨Nat.zero_le _, by simpa using this⟩
    · exact ⟨Nat.zero_le _, by simpa using this⟩

theorem R_disj : Disjoint R0.set R1.set := by
  rw [Finset.disjoint_left]; intro i h0 h1
  have a0 := ((Rect.mem_set_unit.mp h0) 0).2
  have a1 := ((Rect.mem_set_unit.mp h1) 0).1
  have : (i 0).val < 0 + 1 := a0
  have : 1 ≤ (i 0).val := a1
  omega

theorem slots_union (M : Memref sig .tc .vmem S2x256x512 .fp8e4m3) : (slot0 M).view.set ∪ (slot1 M).view.set = M.view.set := by
  rw [set_slot0, set_slot1, ← Finset.map_union, R_cover]; rfl
theorem slots_disj (M : Memref sig .tc .vmem S2x256x512 .fp8e4m3) : Disjoint (slot0 M).view.set (slot1 M).view.set := by
  rw [set_slot0, set_slot1]; exact (Finset.disjoint_map _).mpr R_disj

/-- A buffer of two experts is its two slots. -/
theorem split (M : Memref sig .tc .vmem S2x256x512 .fp8e4m3) (c : Dev nD) (q : PosShare TreeShare) (f : Buf (Elt F) (M.view.loc (c : Thread nD τ))) :
    (mPts M c q f : sProp 𝕄) ⊣⊢ iprop(mPts (slot0 M) c q f ∗ mPts (slot1 M) c q f) := by
  show (M.view.loc (c : Thread nD τ) ↦[M.view.set]{q} f : sProp 𝕄) ⊣⊢ _
  rw [← slots_union M]
  exact pointsTo_union (slots_disj M)

/-- The two slots at any contents each make the buffer at some contents. -/
theorem joined (M : Memref sig .tc .vmem S2x256x512 .fp8e4m3) (c : Dev nD) (q : PosShare TreeShare) (f g : Buf (Elt F) (M.view.loc (c : Thread nD τ))) :
    iprop(mPts (slot0 M) c q f ∗ mPts (slot1 M) c q g) ⊢ (iprop(∃ h, mPts M c q h) : sProp 𝕄) := by
  refine (pointsTo_join (slots_disj M)).trans ?_
  rw [slots_union M]
  exact exists_intro (Φ := fun h => mPts M c q h) _

/-- A whole scratch buffer owned is its points-to. -/
theorem owns_scratch (b : Ref sig .tc) (c : Dev nD) (q : PosShare TreeShare) (f : b.ty.Contents (Elt F)) :
    (owns (c : Thread nD τ) (Memref.whole b) q f : sProp 𝕄) = ((Memref.whole b).view.loc (c : Thread nD τ) ↦[(Memref.whole b).view.set]{q} f) := by
  rw [owns_whole]; simp only [Memref.view_whole, View.set_whole]

/-- Any share is its two halves. -/
theorem halves {s : Shape} (M : Memref sig .tc .vmem s .fp8e4m3) (c : Dev nD) (q : PosShare TreeShare) (f : Buf (Elt F) (M.view.loc (c : Thread nD τ))) :
    (mPts M c q f : sProp 𝕄) ⊣⊢ iprop(mPts M c q.left f ∗ mPts M c q.right f) :=
  pointsTo_share (PosShare.mem_left_op_right q)

/-! ## What the transfers leave -/

theorem land_r0 (fd f : Bytes F) : ∀ i ∈ (slot0 rM).view.set,
    (slot0 rM).view.write (Elt F) fd ((slot0 qM).view.read (Elt F) f) Finset.univ i = f i := by
  intro i hi
  obtain ⟨x, -, rfl⟩ := Finset.mem_map.mp hi
  exact View.write_emb_of_mem _ _ (Finset.mem_univ x)
theorem land_r1 (fd f : Bytes F) : ∀ i ∈ (slot1 rM).view.set,
    (slot1 rM).view.write (Elt F) fd ((slot1 qM).view.read (Elt F) f) Finset.univ i = f i := by
  intro i hi
  obtain ⟨x, -, rfl⟩ := Finset.mem_map.mp hi
  exact View.write_emb_of_mem _ _ (Finset.mem_univ x)
theorem land_o0 (fd f : Bytes F) : ∀ i ∈ (slot0 oM).view.set,
    (slot0 oM).view.write (Elt F) fd ((slot0 lM).view.read (Elt F) f) Finset.univ i = f i := by
  intro i hi
  obtain ⟨x, -, rfl⟩ := Finset.mem_map.mp hi
  exact View.write_emb_of_mem _ _ (Finset.mem_univ x)
theorem land_o1 (fd f : Bytes F) : ∀ i ∈ (slot1 oM).view.set,
    (slot1 oM).view.write (Elt F) fd ((slot1 rM).view.read (Elt F) f) Finset.univ i = f i := by
  intro i hi
  obtain ⟨x, -, rfl⟩ := Finset.mem_map.mp hi
  exact View.write_emb_of_mem _ _ (Finset.mem_univ x)

/-! ## Local steps -/

variable (c : Dev nD) {α : Type} (Kt : α → sProp (MT nD τ sig Unit (Elt F) ℕ U2 ℕ))

/-- A load of a rectangle of a window. -/
theorem step_load {s : Shape} {e : EltTy} (a : Memref sig .tc .vmem s e) (r : Rect s) {hl : a.view.LoadsAt r.toLoadRect} (X : s.Idx → Elt F e)
    (k : (r.shape.Idx → Elt F e) → Prog (TpuEff nD τ sig (Elt F) Λ₀ .tc) α) :
    owns (c : Thread nD τ) a fullShare X ⊢ iprop((owns (c : Thread nD τ) a fullShare X -∗ run c Kt (k fun i => X (r.emb i)))
      -∗ run c Kt (.op (.load a r.toLoadRect hl) k)) := by
  unfold owns
  iintro ⟨%f, %hf, H⟩ Hk
  iapply (wp_load_rect 𝒱₀ (c : Thread nD τ) none Set.univ (m := a) (r := r) (S := a.view.set) (f := f) (View.set_slice_subset a.view r)) $$ [H]
  · iexact H
  iintro H
  subst hf
  iapply Hk
  iexists f
  isplitr; · ipureintro; rfl
  iexact H

/-- The same at a value the loaded one is known to equal. -/
theorem step_load_eq {s : Shape} {e : EltTy} (a : Memref sig .tc .vmem s e) (r : Rect s) {hl : a.view.LoadsAt r.toLoadRect} (X : s.Idx → Elt F e)
    (Y : r.shape.Idx → Elt F e) (hY : Y = fun i => X (r.emb i)) (k : (r.shape.Idx → Elt F e) → Prog (TpuEff nD τ sig (Elt F) Λ₀ .tc) α) :
    owns (c : Thread nD τ) a fullShare X ⊢ iprop((owns (c : Thread nD τ) a fullShare X -∗ run c Kt (k Y))
      -∗ run c Kt (.op (.load a r.toLoadRect hl) k)) := by
  subst hY; exact step_load c Kt a r X k

/-- A load of a whole window. -/
theorem step_load_full {s : Shape} {e : EltTy} (a : Memref sig .tc .vmem s e) (off : Fin s.rank → ℕ) (h0 : ∀ i, off i = 0) (inb : ∀ i, off i + s.size i ≤ s.size i)
    {hl : a.view.LoadsAt (Rect.unit (s := s) off s.size inb).toLoadRect} (X : s.Idx → Elt F e)
    (k : (s.Idx → Elt F e) → Prog (TpuEff nD τ sig (Elt F) Λ₀ .tc) α) :
    owns (c : Thread nD τ) a fullShare X ⊢ iprop((owns (c : Thread nD τ) a fullShare X -∗ run c Kt (k X))
      -∗ run c Kt (.op (.load a (Rect.unit (s := s) off s.size inb).toLoadRect hl) k)) := by
  exact step_load_eq c Kt a (Rect.unit (s := s) off s.size inb) X X (funext fun i => congrArg X (emb_full off h0 inb i).symm) k

/-- A load of a slot of a scratch buffer. -/
theorem step_load_slot0 (b : Memref sig .tc .vmem S2x256x512 .fp8e4m3) {hl : b.view.LoadsAt R0.toLoadRect} (q : PosShare TreeShare) (f : Buf (Elt F) (b.view.loc (c : Thread nD τ)))
    (k : (R0.shape.Idx → Elt F .fp8e4m3) → Prog (TpuEff nD τ sig (Elt F) Λ₀ .tc) α) :
    mPts (slot0 b) c q f ⊢ iprop((mPts (slot0 b) c q f -∗ run c Kt (k ((b.access R0).read (Elt F) f)))
      -∗ run c Kt (.op (.load b R0.toLoadRect hl) k)) :=
  wp_load_rect 𝒱₀ (c : Thread nD τ) none Set.univ (m := b) (r := R0) (q := q) (f := f) (by rw [set_slot0]; exact (View.set_slice b.view R0).le)
theorem step_load_slot1 (b : Memref sig .tc .vmem S2x256x512 .fp8e4m3) {hl : b.view.LoadsAt R1.toLoadRect} (q : PosShare TreeShare) (f : Buf (Elt F) (b.view.loc (c : Thread nD τ)))
    (k : (R1.shape.Idx → Elt F .fp8e4m3) → Prog (TpuEff nD τ sig (Elt F) Λ₀ .tc) α) :
    mPts (slot1 b) c q f ⊢ iprop((mPts (slot1 b) c q f -∗ run c Kt (k ((b.access R1).read (Elt F) f)))
      -∗ run c Kt (.op (.load b R1.toLoadRect hl) k)) :=
  wp_load_rect 𝒱₀ (c : Thread nD τ) none Set.univ (m := b) (r := R1) (q := q) (f := f) (by rw [set_slot1]; exact (View.set_slice b.view R1).le)

/-- A store over a whole window. -/
theorem step_store {s : Shape} {e : EltTy} (a : Memref sig .tc .vmem s e) (off : Fin s.rank → ℕ) (h0 : ∀ i, off i = 0) (inb : ∀ i, off i + s.size i ≤ s.size i)
    (w : s.Idx → Elt F e) {hx : (a.access (Rect.unit (s := s) off s.size inb)).Stores Finset.univ} {hm : (Finset.univ : Finset (Rect.unit (s := s) off s.size inb).shape.Idx) = Finset.univ ∨ ∀ i, (Rect.unit (s := s) off s.size inb).stride i = 1}
    (X : s.Idx → Elt F e) (k : PUnit → Prog (TpuEff nD τ sig (Elt F) Λ₀ .tc) α) :
    owns (c : Thread nD τ) a fullShare X ⊢ iprop((owns (c : Thread nD τ) a fullShare w -∗ run c Kt (k ⟨⟩))
      -∗ run c Kt (.op (.store a (Rect.unit (s := s) off s.size inb) w Finset.univ hx hm) k)) := by
  unfold owns
  iintro ⟨%f, %hf, H⟩ Hk
  iapply (wp_store 𝒱₀ (c : Thread nD τ) none Set.univ (m := a) (r := Rect.unit (s := s) off s.size inb) (S := a.view.set) (f := f) (View.set_slice_subset a.view _)) $$ [H]
  · iexact H
  iintro H
  iapply Hk
  iexists _
  isplitr
  swap; · iexact H
  ipureintro
  funext i
  have h := View.read_slice_write_emb (Val := Elt F) (v := a.view) (Rect.unit (s := s) off s.size inb) f w (M := Finset.univ) (x := i) (Finset.mem_univ _)
  rwa [emb_full off h0 inb i] at h

end Cert.KernelIdeal.Exchange
end
-- ==== Proof.Body.lean ====
/- The kernel's parts at a symbolic device, each with what it takes, what it leaves and what it returns. -/
module

public import proofs.«01_k».proof.Proof.Slots

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ U2 ℕ

/-- The ring words the kernel computes from its device: itself, its left and its right neighbour. -/
def w2 (c : Dev nD) : BitVec 32 := Scalar.remsi (Scalar.divsi (Dev.word c) 1#32) 4#32
def w5 (c : Dev nD) : BitVec 32 := Scalar.remsi (Scalar.addi (Scalar.subi (w2 c) 1#32) 4#32) 4#32
def w7 (c : Dev nD) : BitVec 32 := Scalar.remsi (Scalar.addi (w2 c) 1#32) 4#32

section Steps

variable (Q : Dev nD → Bytes F) (K : GSem nD τ sig → ℕ) (c : Dev nD) (W : Waits sig Unit) {α : Type}
variable (k : PUnit → Prog (TpuEff nD τ sig (Elt F) Λ₀ .tc) α) (Kt : α → sProp (MT nD τ sig Unit (Elt F) ℕ U2 ℕ))

theorem step_device (k : Dev nD → Prog (TpuEff nD τ sig (Elt F) Λ₀ .tc) α) : run c Kt (k c) ⊢ run c Kt (.op .deviceId k) :=
  Entails.of_eq (wp_deviceId 𝒱₀ (c : Thread nD τ) none Set.univ).symm

theorem step_ret (v : α) : Kt v ⊢ run c Kt (.ret v) := le_wp_ret frame _ Set.univ v Kt

/-- The signal to the left as the kernel spells it. -/
theorem step_sig1 (h : k0_dev1 c < nD) (s : Fin sig.nSem) (hs : s = barrier0) :
    iprop(ci Q K (barCell (lf c)) ∗ owes (c : Thread nD τ) (O₀ c) W ∗ dutyTok ER (barCell (lf c)) 0 0 ∗ barPay 0 (lf c) ∗ reached ER (barCell (lf c)) 0)
    ⊢ iprop((owes (c : Thread nD τ) (owe c 0 + tallyAt (barCell (rt c)) () 1) W -∗ run c Kt (k ⟨⟩))
      -∗ run c Kt (semSignalWord (⟨k0_dev1 c, h⟩ : Dev nD) s 1#32 >>= k)) := by
  subst hs; rw [dev1_eq]; exact step_signal_left Q K c W k Kt

/-- The signal to the right as the kernel spells it. -/
theorem step_sig2 (h : k0_dev2 c < nD) (s : Fin sig.nSem) (hs : s = barrier0) :
    iprop(ci Q K (barCell (rt c)) ∗ owes (c : Thread nD τ) (owe c 0 + tallyAt (barCell (rt c)) () 1) W ∗ dutyTok ER (barCell (rt c)) 0 1 ∗ barPay 1 (rt c) ∗ reached ER (barCell (rt c)) 0)
    ⊢ iprop((owes (c : Thread nD τ) (owe c 0) W -∗ run c Kt (k ⟨⟩))
      -∗ run c Kt (semSignalWord (⟨k0_dev2 c, h⟩ : Dev nD) s 1#32 >>= k)) := by
  subst hs; rw [dev2_eq]; exact step_signal_right Q K c W k Kt

/-- The barrier's wait as the kernel spells it. -/
theorem step_barrier (s : Fin sig.nSem) (hs : s = barrier0) :
    iprop(ci Q K (barCell c) ∗ cred (tallyAt (barCell c) () 2) ∗ owes (c : Thread nD τ) (owe c 0) W ∗ levAts L lv ∗ atPos ER (barCell c) 0 ∅ 0)
    ⊢ iprop((((∃ W, owes (c : Thread nD τ) (owe c 0) W) ∗ atPos ER (barCell c) 1 ∅ 0 ∗ barPay 0 c ∗ barPay 1 c) -∗ run c Kt (k ⟨⟩))
      -∗ run c Kt (semWaitWord s 2#32 >>= k)) := by
  subst hs; exact step_wait_bar Q K c W k Kt

/-- What device `c` has owing, with some record of its waits. -/
abbrev owing (O : CellTallies nD τ sig Unit) : sProp 𝕄 := iprop(∃ W, owes (c : Thread nD τ) O W)

/-- What stays available for transfer `j` from `c` to `d`. -/
abbrev sendEnv (j : Fin 6) (d : Dev nD) : sProp 𝕄 := iprop(ci Q K (sendCell c j) ∗ reached ER (sendCell c j) 0 ∗ ci Q K (recvCell d j))
/-- What transfer `j` from `c` to `d` spends. -/
abbrev sendTok (j : Fin 6) (d : Dev nD) : sProp 𝕄 :=
  iprop(dutyTok ER (sendCell c j) 0 0 ∗ dutyTok ER (recvCell d j) 0 0 ∗ reached ER (recvCell d j) 0)

/-- A transfer as the kernel spells it. -/
theorem step_copy (j : Fin 6) (d : Dev nD) {d' : Dev nD} (hd : d' = d) {s s' : DmaSem sig} (hs : s = sS j) (hs' : s' = rS j)
    {src dst : Memref sig .tc .vmem S256x512 .fp8e4m3} {hsrc : src.view.WordExact} {hdst : dst.view.WordExact}
    {hsc : dst.view.ref.isScScratch = false} {hsem : DmaTarget.Typed .vmem (.dma s') (.remote (d' : Thread nD τ) dst (.dma s) hsc)} (hN : dst.view.dmaCredit = N)
    (q : PosShare TreeShare) (fs : Buf (Elt F) (src.view.loc (c : Thread nD τ)))
    (O₁ O : CellTallies nD τ sig Unit) (hO : O₁ = O + tallyAt (recvCell d j) () N)
    (hpay₁ : mPts src c q fs ⊢ (dmaPay Q (5 + j.val) c : sProp 𝕄))
    (hpay₂ : ∀ fd, mPts dst d fullShare (dst.view.write (Elt F) fd (src.view.read (Elt F) fs) Finset.univ) ⊢ (dmaPay Q (11 + j.val) d : sProp 𝕄)) :
    iprop(sendEnv Q K c j d ∗ sendTok c j d ∗ mPts src c q fs ∗ (∃ f, mPts dst d fullShare f) ∗ owing c O₁)
    ⊢ iprop(((cred (tallyAt (sendCell c j) () N) ∗ owing c O) -∗ run c Kt (k ⟨⟩))
      -∗ run c Kt (.op (.enqueueDma src (.remote (d' : Thread nD τ) dst (.dma s) hsc) (.dma s') hsrc hdst hsem) k)) := by
  subst hd hs hs'
  iintro ⟨⟨#Is, #Rs, #Ir⟩, ⟨Ts, Tr, Rr⟩, Hs, ⟨%fd, Hd⟩, ⟨%W, HO⟩⟩ Hk
  iapply (step_send Q K c W k Kt j d' hsrc hdst hN q fs fd O₁ O hO hpay₁ (hpay₂ fd)) $$ [Ts Tr Rr Hs Hd HO]
  · isplitr; · iexact Is
    isplitr; · iexact Ir
    isplitl [Hs]; · iexact Hs
    isplitl [Hd]; · iexact Hd
    isplitl [HO]; · iexact HO
    isplitl [Ts]; · iexact Ts
    isplitr; · iexact Rs
    isplitl [Tr]; · iexact Tr
    iexact Rr
  iintro ⟨Hc, HO⟩
  iapply Hk
  isplitl [Hc]; · iexact Hc
  iexists W; iexact HO

/-- What the wait for arrival `j` spends, and what is left of it. -/
abbrev recvTok (j : Fin 6) : sProp 𝕄 := iprop(cred (tallyAt (recvCell c j) () N) ∗ atPos ER (recvCell c j) 0 ∅ 0)
abbrev recvEnd (j : Fin 6) : sProp 𝕄 := atPos ER (recvCell c j) 1 ∅ 0
abbrev sendEnd (j : Fin 6) : sProp 𝕄 := atPos ER (sendCell c j) 1 ∅ 0

/-- The wait for an arrival as the kernel spells it. -/
theorem step_arrive (j : Fin 6) (O : CellTallies nD τ sig Unit) (hO : (levAts L lv : sProp 𝕄) ⊢ MayWait (c : Thread nD τ) (.dma (rS j)) () O)
    {s : DmaSem sig} (hs : s = rS j) {src dst : Memref sig .tc .vmem S256x512 .fp8e4m3} {hsrc : src.view.WordExact} {hdst : dst.view.WordExact} (hN : dst.view.dmaCredit = N) :
    iprop(ci Q K (recvCell c j) ∗ levAts L lv ∗ recvTok c j ∗ owing c O)
    ⊢ iprop(((owing c O ∗ recvEnd c j ∗ dmaPay Q (11 + j.val) c) -∗ run c Kt (k ⟨⟩))
      -∗ run c Kt (.op (.waitDma2 s src dst hsrc hdst) k)) := by
  subst hs
  iintro ⟨#HI, #Hlev, ⟨Hc, Hat⟩, ⟨%W, HO⟩⟩ Hk
  iapply (step_wait_recv Q K c W k Kt j O hO hsrc hdst hN) $$ [Hc HO Hat]
  · isplitr; · iexact HI
    isplitl [Hc]; · iexact Hc
    isplitl [HO]; · iexact HO
    isplitr; · iexact Hlev
    iexact Hat
  iexact Hk

/-- The wait for a departure as the kernel spells it. -/
theorem step_depart (j : Fin 6) {s : DmaSem sig} (hs : s = sS j)
    {src dst : Memref sig .tc .vmem S256x512 .fp8e4m3} {hsrc : src.view.WordExact} {hdst : dst.view.WordExact} (hN : dst.view.dmaCredit = N) :
    iprop(ci Q K (sendCell c j) ∗ (cred (tallyAt (sendCell c j) () N) ∗ atPos ER (sendCell c j) 0 ∅ 0) ∗ owing c 0)
    ⊢ iprop(((owing c 0 ∗ sendEnd c j ∗ dmaPay Q (5 + j.val) c) -∗ run c Kt (k ⟨⟩))
      -∗ run c Kt (.op (.waitDma2 s src dst hsrc hdst) k)) := by
  subst hs
  iintro ⟨#HI, ⟨Hc, Hat⟩, ⟨%W, HO⟩⟩ Hk
  iapply (step_wait_send Q K c W k Kt j hsrc hdst hN) $$ [Hc HO Hat]
  · isplitr; · iexact HI
    isplitl [Hc]; · iexact Hc
    isplitl [HO]; · iexact HO
    iexact Hat
  iexact Hk

/-! Every slot adds the same to its cells. -/

theorem N_q0 : (slot0 qM).view.dmaCredit = N := rfl
theorem N_q1 : (slot1 qM).view.dmaCredit = N := rfl
theorem N_l0 : (slot0 lM).view.dmaCredit = N := rfl
theorem N_l1 : (slot1 lM).view.dmaCredit = N := rfl
theorem N_r0 : (slot0 rM).view.dmaCredit = N := rfl
theorem N_r1 : (slot1 rM).view.dmaCredit = N := rfl
theorem N_o0 : (slot0 oM).view.dmaCredit = N := rfl
theorem N_o1 : (slot1 oM).view.dmaCredit = N := rfl

/-! The kernel's spelling of its transfer semaphores. -/

theorem pick (n base : ℕ) (hb : base + S6.numel ≤ n) (k : Fin 6) (h : ∀ a : Fin 1, (![k.val] : Fin 1 → ℕ) a + S1.size a ≤ S6.size a) :
    ((((SemArray.consecutive base S6 hb).slice (Rect.unit (s := S6) ![k.val] S1.size h)).squeeze S_ squeezes_S1_S_).sem).val = base + k.val := by
  show base + (S6.rowMajor ((Rect.unit (s := S6) ![k.val] S1.size h).emb _)).val = _
  rw [Shape.rowMajor_val_one]
  congr 1
  generalize Shape.reshapeEquiv _ _ = j
  have hj : (j 0).val < 1 := (j 0).isLt
  show k.val + 1 * (j 0).val = k.val
  omega
theorem s_at (k : Fin 6) (h : ∀ a : Fin 1, (![k.val] : Fin 1 → ℕ) a + S1.size a ≤ S6.size a) :
    (((cc0_scratch4 : DmaSems sig S6).slice (Rect.unit (s := S6) ![k.val] S1.size h)).squeeze S_ squeezes_S1_S_).sem = sS k := Fin.ext (pick _ 5 _ k h)
theorem r_at (k : Fin 6) (h : ∀ a : Fin 1, (![k.val] : Fin 1 → ℕ) a + S1.size a ≤ S6.size a) :
    (((cc0_scratch5 : DmaSems sig S6).slice (Rect.unit (s := S6) ![k.val] S1.size h)).squeeze S_ squeezes_S1_S_).sem = rS k := Fin.ext (pick _ 11 _ k h)

/-! What each transfer delivers. -/

theorem pay0 (fd : Bytes F) : mPts (slot0 lM) (rt c) fullShare ((slot0 lM).view.write (Elt F) fd ((slot0 qM).view.read (Elt F) (Q c)) Finset.univ)
    ⊢ (dmaPay Q (11 + (0 : Fin 6).val) (rt c) : sProp 𝕄) := by
  show _ ⊢ mPts (slot0 lM) (rt c) fullShare (Q (lf (rt c)))
  rw [lf_rt]; exact Entails.of_eq (pointsTo_congr (landed0 fd (Q c)))
theorem pay1 (fd : Bytes F) : mPts (slot1 rM) (lf c) fullShare ((slot1 rM).view.write (Elt F) fd ((slot1 qM).view.read (Elt F) (Q c)) Finset.univ)
    ⊢ (dmaPay Q (11 + (1 : Fin 6).val) (lf c) : sProp 𝕄) := by
  show _ ⊢ mPts (slot1 rM) (lf c) fullShare (Q (rt (lf c)))
  rw [rt_lf]; exact Entails.of_eq (pointsTo_congr (land_r1 fd (Q c)))
theorem pay2 (fd : Bytes F) : mPts (slot1 lM) (rt c) fullShare ((slot1 lM).view.write (Elt F) fd ((slot1 qM).view.read (Elt F) (Q c)) Finset.univ)
    ⊢ (dmaPay Q (11 + (2 : Fin 6).val) (rt c) : sProp 𝕄) := by
  show _ ⊢ mPts (slot1 lM) (rt c) fullShare (Q (lf (rt c)))
  rw [lf_rt]; exact Entails.of_eq (pointsTo_congr (landed1 fd (Q c)))
theorem pay3 (fd : Bytes F) : mPts (slot0 rM) (lf c) fullShare ((slot0 rM).view.write (Elt F) fd ((slot0 qM).view.read (Elt F) (Q c)) Finset.univ)
    ⊢ (dmaPay Q (11 + (3 : Fin 6).val) (lf c) : sProp 𝕄) := by
  show _ ⊢ mPts (slot0 rM) (lf c) fullShare (Q (rt (lf c)))
  rw [rt_lf]; exact Entails.of_eq (pointsTo_congr (land_r0 fd (Q c)))
theorem pay4 (fd : Bytes F) : mPts (slot0 oM) (rt c) fullShare ((slot0 oM).view.write (Elt F) fd ((slot0 lM).view.read (Elt F) (Q (lf c))) Finset.univ)
    ⊢ (dmaPay Q (11 + (4 : Fin 6).val) (rt c) : sProp 𝕄) := by
  show _ ⊢ mPts (slot0 oM) (rt c) fullShare (Q (ac (rt c)))
  rw [ac_rt]; exact Entails.of_eq (pointsTo_congr (land_o0 fd (Q (lf c))))
theorem pay5 (fd : Bytes F) : mPts (slot1 oM) (lf c) fullShare ((slot1 oM).view.write (Elt F) fd ((slot1 rM).view.read (Elt F) (Q (rt c))) Finset.univ)
    ⊢ (dmaPay Q (11 + (5 : Fin 6).val) (lf c) : sProp 𝕄) := by
  show _ ⊢ mPts (slot1 oM) (lf c) fullShare (Q (ac (lf c)))
  rw [ac_lf]; exact Entails.of_eq (pointsTo_congr (land_o1 fd (Q (rt c))))

end Steps

/-- The word of a device's second expert, the lanes of the gates, and the word across. -/
def slot (v : BitVec 32) : BitVec 32 := Scalar.addi (Scalar.muli v 2#32) 1#32
def lanes : IVec S512x8 32 := iota .tc S512x8 32 [1] iota_S512x8_d1_w32
def across (v2 : BitVec 32) : BitVec 32 := Scalar.remsi (Scalar.addi v2 2#32) 4#32

theorem mayWait_none (c : Dev nD) (sm : SemLoc sig) : (levAts L lv : sProp 𝕄) ⊢ MayWait (c : Thread nD τ) sm () 0 := by
  rw [MayWait_zero]; iintro -; iempintro

/-! What each arrival holds. -/

theorem got0 (Q : Dev nD → Bytes F) (c : Dev nD) : (dmaPay Q (11 + (0 : Fin 6).val) c : sProp 𝕄) = mPts (slot0 lM) c fullShare (Q (lf c)) := rfl
theorem got1 (Q : Dev nD → Bytes F) (c : Dev nD) : (dmaPay Q (11 + (1 : Fin 6).val) c : sProp 𝕄) = mPts (slot1 rM) c fullShare (Q (rt c)) := rfl
theorem got2 (Q : Dev nD → Bytes F) (c : Dev nD) : (dmaPay Q (11 + (2 : Fin 6).val) c : sProp 𝕄) = mPts (slot1 lM) c fullShare (Q (lf c)) := rfl
theorem got3 (Q : Dev nD → Bytes F) (c : Dev nD) : (dmaPay Q (11 + (3 : Fin 6).val) c : sProp 𝕄) = mPts (slot0 rM) c fullShare (Q (rt c)) := rfl
theorem got4 (Q : Dev nD → Bytes F) (c : Dev nD) : (dmaPay Q (11 + (4 : Fin 6).val) c : sProp 𝕄) = mPts (slot0 oM) c fullShare (Q (ac c)) := rfl
theorem got5 (Q : Dev nD → Bytes F) (c : Dev nD) : (dmaPay Q (11 + (5 : Fin 6).val) c : sProp 𝕄) = mPts (slot1 oM) c fullShare (Q (ac c)) := rfl

section Parts

variable (Q : Dev nD → Bytes F) (K : GSem nD τ sig → ℕ) (c : Dev nD) (W : Waits sig Unit)
variable (a0 : Memref sig .tc .vmem S512x256 .f32) (h0 : a0.IsWhole) (a1 : Memref sig .tc .vmem S512x8 .f32) (h1 : a1.IsWhole)
variable (a2 : Memref sig .tc .vmem S2x256x512 .f32) (h2 : a2.IsWhole) (a3 : Memref sig .tc .vmem S256x512 .f32) (h3 : a3.IsWhole)
variable (a4 : Memref sig .tc .vmem S512x512 .f32) (h4 : a4.IsWhole) (hq : qM.IsWhole) (hl : lM.IsWhole) (hr : rM.IsWhole) (ho : oM.IsWhole)

set_option backward.isDefEq.respectTransparency.types false in
/-- The first part: both neighbours are told the buffers they write are free, the experts are quantised, and both neighbours'
    word is waited for. -/
theorem part1 (x2 : S2x256x512.Idx → Elt F .f32) (Kt : (Σ' (_ : Dev nD) (_ : BitVec 32) (_ : BitVec 32), BitVec 32) → sProp (MT nD τ sig Unit (Elt F) ℕ U2 ℕ)) :
    iprop(owns (c : Thread nD τ) a2 fullShare x2 ∗ (∃ f, mPts qM c fullShare f)
      ∗ ci Q K (barCell (lf c)) ∗ ci Q K (barCell (rt c)) ∗ ci Q K (barCell c) ∗ levAts L lv
      ∗ owes (c : Thread nD τ) (O₀ c) W ∗ dutyTok ER (barCell (lf c)) 0 0 ∗ reached ER (barCell (lf c)) 0 ∗ barPay 0 (lf c)
      ∗ dutyTok ER (barCell (rt c)) 0 1 ∗ reached ER (barCell (rt c)) 0 ∗ barPay 1 (rt c)
      ∗ cred (tallyAt (barCell c) () 2) ∗ atPos ER (barCell c) 0 ∅ 0)
    ⊢ iprop((owns (c : Thread nD τ) a2 fullShare x2 ∗ mPts qM c fullShare (k0_pay1 x2) ∗ owing c (owe c 0)
        ∗ atPos ER (barCell c) 1 ∅ 0 ∗ barPay 0 c ∗ barPay 1 c -∗ Kt ⟨c, w2 c, w5 c, w7 c⟩)
      -∗ run c Kt (k0_part1 a0 h0 a1 h1 a2 h2 a3 h3 a4 h4 qM hq lM hl rM hr oM ho cc0_scratch4 cc0_scratch5)) := by
  iintro ⟨Hw, ⟨%f, Hq⟩, #Il, #Ir, #Ib, #Hlev, HO, Tl, Rl, Pl, Tr, Rr, Pr, Hc, Hat⟩ Hk
  rw [k0_part1_eq_skeleton]
  unfold k0_part1_skel
  iapply (step_device c Kt _)
  iapply (step_sig1 Q K c W _ Kt _ _ rfl) $$ [HO Tl Pl Rl]
  · isplitr; · iexact Il
    isplitl [HO]; · iexact HO
    isplitl [Tl]; · iexact Tl
    isplitl [Pl]; · iexact Pl
    iexact Rl
  iintro HO
  iapply (step_sig2 Q K c W _ Kt _ _ rfl) $$ [HO Tr Pr Rr]
  · isplitr; · iexact Ir
    isplitl [HO]; · iexact HO
    isplitl [Tr]; · iexact Tr
    isplitl [Pr]; · iexact Pr
    iexact Rr
  iintro HO
  iapply (step_load_full c Kt a2 ![0, 0, 0] (by decide) inb_S2x256x512_S2x256x512_0_0_0 x2 _) $$ Hw
  iintro Hw
  ihave Hq := (Entails.of_eq (owns_scratch cc0_scratch0 c fullShare f).symm) $$ Hq
  iapply (step_load_full c Kt qM ![0, 0, 0] (by decide) inb_S2x256x512_S2x256x512_0_0_0 f _) $$ Hq
  iintro Hq
  iapply (step_store c Kt qM ![0, 0, 0] (by decide) inb_S2x256x512_S2x256x512_0_0_0 (k0_pay1 x2) f _) $$ Hq
  iintro Hq
  ihave Hq := (Entails.of_eq (owns_scratch cc0_scratch0 c fullShare (k0_pay1 x2))) $$ Hq
  iapply (step_barrier Q K c W _ Kt _ rfl) $$ [Hc HO Hat]
  · isplitr; · iexact Ib
    isplitl [Hc]; · iexact Hc
    isplitl [HO]; · iexact HO
    isplitr; · iexact Hlev
    iexact Hat
  iintro ⟨HO, Hat, P0, P1⟩
  iapply (step_ret c Kt ⟨c, w2 c, w5 c, w7 c⟩)
  iapply Hk
  isplitl [Hw]; · iexact Hw
  isplitl [Hq]; · iexact Hq
  isplitl [HO]; · iexact HO
  isplitl [Hat]; · iexact Hat
  isplitl [P0]; · iexact P0
  iexact P1

set_option backward.isDefEq.respectTransparency.types false in
/-- The second part: the first three transfers leave. -/
theorem part2 (v5 v7 : BitVec 32) (Kt : PUnit → sProp (MT nD τ sig Unit (Elt F) ℕ U2 ℕ)) :
    iprop((sendEnv Q K c 0 (rt c) ∗ sendTok c 0 (rt c) ∗ mPts (slot0 qM) c fullShare.left (Q c) ∗ (∃ f, mPts (slot0 lM) (rt c) fullShare f))
      ∗ (sendEnv Q K c 1 (lf c) ∗ sendTok c 1 (lf c) ∗ mPts (slot1 qM) c fullShare.left (Q c) ∗ (∃ f, mPts (slot1 rM) (lf c) fullShare f))
      ∗ (sendEnv Q K c 2 (rt c) ∗ sendTok c 2 (rt c) ∗ mPts (slot1 qM) c fullShare.right (Q c) ∗ (∃ f, mPts (slot1 lM) (rt c) fullShare f))
      ∗ owing c (owe c 0))
    ⊢ iprop((cred (tallyAt (sendCell c 0) () N) ∗ cred (tallyAt (sendCell c 1) () N) ∗ cred (tallyAt (sendCell c 2) () N) ∗ owing c (owe c 3) -∗ Kt ⟨⟩)
      -∗ run c Kt (k0_part2 a0 h0 a1 h1 a2 h2 a3 h3 a4 h4 qM hq lM hl rM hr oM ho cc0_scratch4 cc0_scratch5 c v5 v7)) := by
  iintro ⟨⟨E0, T0, S0, D0⟩, ⟨E1, T1, S1, D1⟩, ⟨E2, T2, S2, D2⟩, HO⟩ Hk
  rw [k0_part2_eq_skeleton]
  unfold k0_part2_skel
  iapply (step_copy Q K c _ Kt 0 (rt c) (dev3_eq c _) (s_at 0 _) (r_at 0 _) (src := slot0 qM) (dst := slot0 lM) N_l0 fullShare.left (Q c) (owe c 0) (owe c 1) rfl .rfl (pay0 Q c)) $$ [E0 T0 S0 D0 HO]
  · isplitl [E0]; · iexact E0
    isplitl [T0]; · iexact T0
    isplitl [S0]; · iexact S0
    isplitl [D0]; · iexact D0
    iexact HO
  iintro ⟨C0, HO⟩
  iapply (step_copy Q K c _ Kt 1 (lf c) (dev4_eq c _) (s_at 1 _) (r_at 1 _) (src := slot1 qM) (dst := slot1 rM) N_r1 fullShare.left (Q c) (owe c 1) (owe c 2) rfl .rfl (pay1 Q c)) $$ [E1 T1 S1 D1 HO]
  · isplitl [E1]; · iexact E1
    isplitl [T1]; · iexact T1
    isplitl [S1]; · iexact S1
    isplitl [D1]; · iexact D1
    iexact HO
  iintro ⟨C1, HO⟩
  iapply (step_copy Q K c _ Kt 2 (rt c) (dev5_eq c _) (s_at 2 _) (r_at 2 _) (src := slot1 qM) (dst := slot1 lM) N_l1 fullShare.right (Q c) (owe c 2) (owe c 3) rfl .rfl (pay2 Q c)) $$ [E2 T2 S2 D2 HO]
  · isplitl [E2]; · iexact E2
    isplitl [T2]; · iexact T2
    isplitl [S2]; · iexact S2
    isplitl [D2]; · iexact D2
    iexact HO
  iintro ⟨C2, HO⟩
  iapply (step_ret c Kt ⟨⟩)
  iapply Hk
  isplitl [C0]; · iexact C0
  isplitl [C1]; · iexact C1
  isplitl [C2]; · iexact C2
  iexact HO

set_option backward.isDefEq.respectTransparency.types false in
/-- The third part: the fourth transfer leaves, and the activations, gates, shared weights and the first local expert are read. -/
theorem part3 (v2 : BitVec 32) (x0 : S512x256.Idx → Elt F .f32) (x1 : S512x8.Idx → Elt F .f32) (x2 : S2x256x512.Idx → Elt F .f32) (x3 : S256x512.Idx → Elt F .f32) (Kt : (Σ' (_ : FVec F S512x256 .bf16) (_ : FVec F S512x8 .f32) (_ : IVec S512x8 32) (_ : FVec F S512x512 .f32), BitVec 32) → sProp (MT nD τ sig Unit (Elt F) ℕ U2 ℕ)) :
    iprop((sendEnv Q K c 3 (lf c) ∗ sendTok c 3 (lf c) ∗ mPts (slot0 qM) c fullShare.right (Q c) ∗ (∃ f, mPts (slot0 rM) (lf c) fullShare f)) ∗ owing c (owe c 3)
      ∗ owns (c : Thread nD τ) a0 fullShare x0 ∗ owns (c : Thread nD τ) a1 fullShare x1 ∗ owns (c : Thread nD τ) a2 fullShare x2 ∗ owns (c : Thread nD τ) a3 fullShare x3)
    ⊢ iprop((cred (tallyAt (sendCell c 3) () N) ∗ owing c (owe c 4)
        ∗ owns (c : Thread nD τ) a0 fullShare x0 ∗ owns (c : Thread nD τ) a1 fullShare x1 ∗ owns (c : Thread nD τ) a2 fullShare x2 ∗ owns (c : Thread nD τ) a3 fullShare x3 -∗ Kt ⟨k0_pay2 x0, k0_pay3 x1, lanes, k0_pay4 v2 x0 x1 x3 (cut R0 x2), slot v2⟩)
      -∗ run c Kt (k0_part3 (F := F) a0 h0 a1 h1 a2 h2 a3 h3 a4 h4 qM hq lM hl rM hr oM ho cc0_scratch4 cc0_scratch5 c v2)) := by
  iintro ⟨⟨E3, T3, S3, D3⟩, HO, W0, W1, W2, W3⟩ Hk
  rw [k0_part3_eq_skeleton]
  unfold k0_part3_skel
  iapply (step_copy Q K c _ Kt 3 (lf c) (dev6_eq c _) (s_at 3 _) (r_at 3 _) (src := slot0 qM) (dst := slot0 rM) N_r0 fullShare.right (Q c) (owe c 3) (owe c 4) rfl .rfl (pay3 Q c)) $$ [E3 T3 S3 D3 HO]
  · isplitl [E3]; · iexact E3
    isplitl [T3]; · iexact T3
    isplitl [S3]; · iexact S3
    isplitl [D3]; · iexact D3
    iexact HO
  iintro ⟨C3, HO⟩
  iapply (step_load_full c Kt a0 ![0, 0] (by decide) inb_S512x256_S512x256_0_0 x0 _) $$ W0
  iintro W0
  iapply (step_load_full c Kt a1 ![0, 0] (by decide) inb_S512x8_S512x8_0_0 x1 _) $$ W1
  iintro W1
  iapply (step_load_full c Kt a3 ![0, 0] (by decide) inb_S256x512_S256x512_0_0 x3 _) $$ W3
  iintro W3
  iapply (step_load c Kt a2 R0 x2 _) $$ W2
  iintro W2
  iapply (step_ret c Kt ⟨k0_pay2 x0, k0_pay3 x1, lanes, k0_pay4 v2 x0 x1 x3 (cut R0 x2), slot v2⟩)
  iapply Hk
  isplitl [C3]; · iexact C3
  isplitl [HO]; · iexact HO
  isplitl [W0]; · iexact W0
  isplitl [W1]; · iexact W1
  isplitl [W2]; · iexact W2
  iexact W3

set_option backward.isDefEq.respectTransparency.types false in
/-- The fourth part: the second local expert is read and the first arrival is waited for. -/
theorem part4 (v7 : BitVec 32) (v63 : FVec F S512x256 .bf16) (v65 : FVec F S512x8 .f32) (v66 : IVec S512x8 32) (v88 : FVec F S512x512 .f32) (v90 : BitVec 32) (x2 : S2x256x512.Idx → Elt F .f32) (Kt : FVec F S512x512 .f32 → sProp (MT nD τ sig Unit (Elt F) ℕ U2 ℕ)) :
    iprop(ci Q K (recvCell c 0) ∗ levAts L lv ∗ recvTok c 0 ∗ owing c (owe c 4) ∗ owns (c : Thread nD τ) a2 fullShare x2)
    ⊢ iprop((owns (c : Thread nD τ) a2 fullShare x2 ∗ owing c (owe c 4) ∗ recvEnd c 0 ∗ mPts (slot0 lM) c fullShare (Q (lf c)) -∗ Kt (k0_pay5 v63 v65 v66 v88 v90 (cut R1 x2)))
      -∗ run c Kt (k0_part4 (F := F) a0 h0 a1 h1 a2 h2 a3 h3 a4 h4 qM hq lM hl rM hr oM ho cc0_scratch4 cc0_scratch5 v7 v63 v65 v66 v88 v90)) := by
  iintro ⟨#I0, #Hlev, A0, HO, W2⟩ Hk
  rw [k0_part4_eq_skeleton]
  unfold k0_part4_skel
  iapply (step_load c Kt a2 R1 x2 _) $$ W2
  iintro W2
  iapply (step_arrive Q K c _ Kt 0 (owe c 4) (mayWait_recv0 c) (r_at 0 _) (src := slot0 qM) (dst := slot0 lM) N_l0) $$ [A0 HO]
  · isplitr; · iexact I0
    isplitr; · iexact Hlev
    isplitl [A0]; · iexact A0
    iexact HO
  iintro ⟨HO, N0, G0⟩
  ihave G0 := (Entails.of_eq (got0 Q c)) $$ G0
  iapply (step_ret c Kt (k0_pay5 v63 v65 v66 v88 v90 (cut R1 x2)))
  iapply Hk
  isplitl [W2]; · iexact W2
  isplitl [HO]; · iexact HO
  isplitl [N0]; · iexact N0
  iexact G0

set_option backward.isDefEq.respectTransparency.types false in
/-- The fifth part: the first arrival is passed on, the second is waited for and passed on, and the first is read. -/
theorem part5 (v5 : BitVec 32) (v65 : FVec F S512x8 .f32) (v66 : IVec S512x8 32) (Kt : (Σ' (_ : FVec F S256x512 .fp8e4m3) (_ : FVec F S512 .f32), F .f32) → sProp (MT nD τ sig Unit (Elt F) ℕ U2 ℕ)) :
    iprop((sendEnv Q K c 4 (rt c) ∗ sendTok c 4 (rt c) ∗ mPts (slot0 lM) c fullShare (Q (lf c)) ∗ (∃ f, mPts (slot0 oM) (rt c) fullShare f))
      ∗ (sendEnv Q K c 5 (lf c) ∗ sendTok c 5 (lf c) ∗ (∃ f, mPts (slot1 oM) (lf c) fullShare f))
      ∗ ci Q K (recvCell c 1) ∗ levAts L lv ∗ recvTok c 1 ∗ owing c (owe c 4))
    ⊢ iprop((cred (tallyAt (sendCell c 4) () N) ∗ cred (tallyAt (sendCell c 5) () N) ∗ owing c 0 ∗ recvEnd c 1
        ∗ mPts (slot0 lM) c fullShare.right (Q (lf c)) ∗ mPts (slot1 rM) c fullShare.right (Q (rt c)) -∗ Kt ⟨k0_pay6 (cut R0 (Q (lf c))), k0_pay7 v5 v65 v66, Scalar.ofBits .f32 0x3D000000#32⟩)
      -∗ run c Kt (k0_part5 (F := F) a0 h0 a1 h1 a2 h2 a3 h3 a4 h4 qM hq lM hl rM hr oM ho cc0_scratch4 cc0_scratch5 c v5 v65 v66)) := by
  iintro ⟨⟨E4, T4, S4, D4⟩, ⟨E5, T5, D5⟩, #I1, #Hlev, A1, HO⟩ Hk
  rw [k0_part5_eq_skeleton]
  unfold k0_part5_skel
  ihave S4 := (halves (slot0 lM) c fullShare (Q (lf c))).1 $$ S4
  icases S4 with ⟨S4, R4⟩
  iapply (step_copy Q K c _ Kt 4 (rt c) (dev7_eq c _) (s_at 4 _) (r_at 4 _) (src := slot0 lM) (dst := slot0 oM) N_o0 fullShare.left (Q (lf c)) (owe c 4) (owe c 5) rfl .rfl (pay4 Q c)) $$ [E4 T4 S4 D4 HO]
  · isplitl [E4]; · iexact E4
    isplitl [T4]; · iexact T4
    isplitl [S4]; · iexact S4
    isplitl [D4]; · iexact D4
    iexact HO
  iintro ⟨C4, HO⟩
  iapply (step_arrive Q K c _ Kt 1 (owe c 5) (mayWait_recv1 c) (r_at 1 _) (src := slot1 qM) (dst := slot1 rM) N_r1) $$ [A1 HO]
  · isplitr; · iexact I1
    isplitr; · iexact Hlev
    isplitl [A1]; · iexact A1
    iexact HO
  iintro ⟨HO, N1, G1⟩
  ihave G1 := (Entails.of_eq (got1 Q c)) $$ G1
  ihave G1 := (halves (slot1 rM) c fullShare (Q (rt c))).1 $$ G1
  icases G1 with ⟨S5, R5⟩
  iapply (step_copy Q K c _ Kt 5 (lf c) (dev8_eq c _) (s_at 5 _) (r_at 5 _) (src := slot1 rM) (dst := slot1 oM) N_o1 fullShare.left (Q (rt c)) (owe c 5) (0) (zero_add _).symm .rfl (pay5 Q c)) $$ [E5 T5 S5 D5 HO]
  · isplitl [E5]; · iexact E5
    isplitl [T5]; · iexact T5
    isplitl [S5]; · iexact S5
    isplitl [D5]; · iexact D5
    iexact HO
  iintro ⟨C5, HO⟩
  iapply (step_load_slot0 c Kt lM fullShare.right (Q (lf c)) _) $$ R4
  iintro R4
  iapply (step_ret c Kt ⟨k0_pay6 (cut R0 (Q (lf c))), k0_pay7 v5 v65 v66, Scalar.ofBits .f32 0x3D000000#32⟩)
  iapply Hk
  isplitl [C4]; · iexact C4
  isplitl [C5]; · iexact C5
  isplitl [HO]; · iexact HO
  isplitl [N1]; · iexact N1
  isplitl [R4]; · iexact R4
  iexact R5

set_option backward.isDefEq.respectTransparency.types false in
/-- The sixth part: the second arrival is read and the third waited for. -/
theorem part6 (v5 v7 : BitVec 32) (v63 : FVec F S512x256 .bf16) (v65 : FVec F S512x8 .f32) (v66 : IVec S512x8 32) (v106 : FVec F S512x512 .f32) (v146 : FVec F S256x512 .fp8e4m3) (v151 : FVec F S512 .f32) (cst : F .f32) (Kt : (Σ' (_ : FVec F S512x512 .f32), BitVec 32) → sProp (MT nD τ sig Unit (Elt F) ℕ U2 ℕ)) :
    iprop(mPts (slot1 rM) c fullShare.right (Q (rt c)) ∗ ci Q K (recvCell c 2) ∗ levAts L lv ∗ recvTok c 2 ∗ owing c 0)
    ⊢ iprop((mPts (slot1 rM) c fullShare.right (Q (rt c)) ∗ owing c 0 ∗ recvEnd c 2 ∗ mPts (slot1 lM) c fullShare (Q (lf c)) -∗ Kt ⟨k0_pay8 v7 v63 v65 v66 v106 v146 v151 cst (cut R1 (Q (rt c))), slot v5⟩)
      -∗ run c Kt (k0_part6 (F := F) a0 h0 a1 h1 a2 h2 a3 h3 a4 h4 qM hq lM hl rM hr oM ho cc0_scratch4 cc0_scratch5 v5 v7 v63 v65 v66 v106 v146 v151 cst)) := by
  iintro ⟨R5, #I2, #Hlev, A2, HO⟩ Hk
  rw [k0_part6_eq_skeleton]
  unfold k0_part6_skel
  iapply (step_load_slot1 c Kt rM fullShare.right (Q (rt c)) _) $$ R5
  iintro R5
  iapply (step_arrive Q K c _ Kt 2 (0) (mayWait_none c _) (r_at 2 _) (src := slot1 qM) (dst := slot1 lM) N_l1) $$ [A2 HO]
  · isplitr; · iexact I2
    isplitr; · iexact Hlev
    isplitl [A2]; · iexact A2
    iexact HO
  iintro ⟨HO, N2, G2⟩
  ihave G2 := (Entails.of_eq (got2 Q c)) $$ G2
  iapply (step_ret c Kt ⟨k0_pay8 v7 v63 v65 v66 v106 v146 v151 cst (cut R1 (Q (rt c))), slot v5⟩)
  iapply Hk
  isplitl [R5]; · iexact R5
  isplitl [HO]; · iexact HO
  isplitl [N2]; · iexact N2
  iexact G2

set_option backward.isDefEq.respectTransparency.types false in
/-- The seventh part: the third arrival is read, the fourth waited for and read. -/
theorem part7 (v5 v7 : BitVec 32) (v63 : FVec F S512x256 .bf16) (v65 : FVec F S512x8 .f32) (v66 : IVec S512x8 32) (v178 : FVec F S512x512 .f32) (v188 : BitVec 32) (Kt : (Σ' (_ : FVec F S512x512 .f32) (_ : FVec F S256x512 .fp8e4m3) (_ : FVec F S512 .f32), FVec F S512 .f32) → sProp (MT nD τ sig Unit (Elt F) ℕ U2 ℕ)) :
    iprop(mPts (slot1 lM) c fullShare (Q (lf c)) ∗ ci Q K (recvCell c 3) ∗ levAts L lv ∗ recvTok c 3 ∗ owing c 0)
    ⊢ iprop((mPts (slot1 lM) c fullShare (Q (lf c)) ∗ owing c 0 ∗ recvEnd c 3 ∗ mPts (slot0 rM) c fullShare (Q (rt c)) -∗ Kt ⟨k0_pay9 v63 v65 v66 v178 v188 (cut R1 (Q (lf c))), k0_pay10 (cut R0 (Q (rt c))), k0_pay11 v7 v65 v66, k0_pay12 (F := F)⟩)
      -∗ run c Kt (k0_part7 (F := F) a0 h0 a1 h1 a2 h2 a3 h3 a4 h4 qM hq lM hl rM hr oM ho cc0_scratch4 cc0_scratch5 v5 v7 v63 v65 v66 v178 v188)) := by
  iintro ⟨G2, #I3, #Hlev, A3, HO⟩ Hk
  rw [k0_part7_eq_skeleton]
  unfold k0_part7_skel
  iapply (step_load_slot1 c Kt lM fullShare (Q (lf c)) _) $$ G2
  iintro G2
  iapply (step_arrive Q K c _ Kt 3 (0) (mayWait_none c _) (r_at 3 _) (src := slot0 qM) (dst := slot0 rM) N_r0) $$ [A3 HO]
  · isplitr; · iexact I3
    isplitr; · iexact Hlev
    isplitl [A3]; · iexact A3
    iexact HO
  iintro ⟨HO, N3, G3⟩
  ihave G3 := (Entails.of_eq (got3 Q c)) $$ G3
  iapply (step_load_slot0 c Kt rM fullShare (Q (rt c)) _) $$ G3
  iintro G3
  iapply (step_ret c Kt ⟨k0_pay9 v63 v65 v66 v178 v188 (cut R1 (Q (lf c))), k0_pay10 (cut R0 (Q (rt c))), k0_pay11 v7 v65 v66, k0_pay12 (F := F)⟩)
  iapply Hk
  isplitl [G2]; · iexact G2
  isplitl [HO]; · iexact HO
  isplitl [N3]; · iexact N3
  iexact G3

set_option backward.isDefEq.respectTransparency.types false in
/-- The eighth part: the first expert from across is waited for and read. -/
theorem part8 (v2 v7 : BitVec 32) (v63 : FVec F S512x256 .bf16) (v65 : FVec F S512x8 .f32) (v66 : IVec S512x8 32) (v204 : FVec F S512x512 .f32) (v216 : FVec F S256x512 .fp8e4m3) (v221 v222 : FVec F S512 .f32) (Kt : (Σ' (_ : BitVec 32), FVec F S512x512 .f32) → sProp (MT nD τ sig Unit (Elt F) ℕ U2 ℕ)) :
    iprop(ci Q K (recvCell c 4) ∗ levAts L lv ∗ recvTok c 4 ∗ owing c 0)
    ⊢ iprop((owing c 0 ∗ recvEnd c 4 ∗ mPts (slot0 oM) c fullShare (Q (ac c)) -∗ Kt ⟨across v2, k0_pay13 v2 v63 v65 v66 v204 v216 v221 v222 (cut R0 (Q (ac c)))⟩)
      -∗ run c Kt (k0_part8 (F := F) a0 h0 a1 h1 a2 h2 a3 h3 a4 h4 qM hq lM hl rM hr oM ho cc0_scratch4 cc0_scratch5 v2 v7 v63 v65 v66 v204 v216 v221 v222)) := by
  iintro ⟨#I4, #Hlev, A4, HO⟩ Hk
  rw [k0_part8_eq_skeleton]
  unfold k0_part8_skel
  iapply (step_arrive Q K c _ Kt 4 (0) (mayWait_none c _) (r_at 4 _) (src := slot0 lM) (dst := slot0 oM) N_o0) $$ [A4 HO]
  · isplitr; · iexact I4
    isplitr; · iexact Hlev
    isplitl [A4]; · iexact A4
    iexact HO
  iintro ⟨HO, N4, G4⟩
  ihave G4 := (Entails.of_eq (got4 Q c)) $$ G4
  iapply (step_load_slot0 c Kt oM fullShare (Q (ac c)) _) $$ G4
  iintro G4
  iapply (step_ret c Kt ⟨across v2, k0_pay13 v2 v63 v65 v66 v204 v216 v221 v222 (cut R0 (Q (ac c)))⟩)
  iapply Hk
  isplitl [HO]; · iexact HO
  isplitl [N4]; · iexact N4
  iexact G4

set_option backward.isDefEq.respectTransparency.types false in
/-- The ninth part: the second expert from across is waited for and read. -/
theorem part9 (v5 : BitVec 32) (v63 : FVec F S512x256 .bf16) (v65 : FVec F S512x8 .f32) (v66 : IVec S512x8 32) (v232 : BitVec 32) (v258 : FVec F S512x512 .f32) (Kt : FVec F S512x512 .f32 → sProp (MT nD τ sig Unit (Elt F) ℕ U2 ℕ)) :
    iprop(ci Q K (recvCell c 5) ∗ levAts L lv ∗ recvTok c 5 ∗ owing c 0)
    ⊢ iprop((owing c 0 ∗ recvEnd c 5 ∗ mPts (slot1 oM) c fullShare (Q (ac c)) -∗ Kt (k0_pay14 v63 v65 v66 v232 v258 (cut R1 (Q (ac c)))))
      -∗ run c Kt (k0_part9 (F := F) a0 h0 a1 h1 a2 h2 a3 h3 a4 h4 qM hq lM hl rM hr oM ho cc0_scratch4 cc0_scratch5 v5 v63 v65 v66 v232 v258)) := by
  iintro ⟨#I5, #Hlev, A5, HO⟩ Hk
  rw [k0_part9_eq_skeleton]
  unfold k0_part9_skel
  iapply (step_arrive Q K c _ Kt 5 (0) (mayWait_none c _) (r_at 5 _) (src := slot1 rM) (dst := slot1 oM) N_o1) $$ [A5 HO]
  · isplitr; · iexact I5
    isplitr; · iexact Hlev
    isplitl [A5]; · iexact A5
    iexact HO
  iintro ⟨HO, N5, G5⟩
  ihave G5 := (Entails.of_eq (got5 Q c)) $$ G5
  iapply (step_load_slot1 c Kt oM fullShare (Q (ac c)) _) $$ G5
  iintro G5
  iapply (step_ret c Kt (k0_pay14 v63 v65 v66 v232 v258 (cut R1 (Q (ac c)))))
  iapply Hk
  isplitl [HO]; · iexact HO
  isplitl [N5]; · iexact N5
  iexact G5

set_option backward.isDefEq.respectTransparency.types false in
/-- The tenth part: the first four departures are waited for. -/
theorem part10  (Kt : PUnit → sProp (MT nD τ sig Unit (Elt F) ℕ U2 ℕ)) :
    iprop(ci Q K (sendCell c 0) ∗ ci Q K (sendCell c 1) ∗ ci Q K (sendCell c 2) ∗ ci Q K (sendCell c 3)
      ∗ (cred (tallyAt (sendCell c 0) () N) ∗ atPos ER (sendCell c 0) 0 ∅ 0) ∗ (cred (tallyAt (sendCell c 1) () N) ∗ atPos ER (sendCell c 1) 0 ∅ 0) ∗ (cred (tallyAt (sendCell c 2) () N) ∗ atPos ER (sendCell c 2) 0 ∅ 0) ∗ (cred (tallyAt (sendCell c 3) () N) ∗ atPos ER (sendCell c 3) 0 ∅ 0) ∗ owing c 0)
    ⊢ iprop((owing c 0 ∗ sendEnd c 0 ∗ sendEnd c 1 ∗ sendEnd c 2 ∗ sendEnd c 3 ∗ dmaPay Q 5 c ∗ dmaPay Q 6 c ∗ dmaPay Q 7 c ∗ dmaPay Q 8 c -∗ Kt ⟨⟩)
      -∗ run c Kt (k0_part10 (F := F) a0 h0 a1 h1 a2 h2 a3 h3 a4 h4 qM hq lM hl rM hr oM ho cc0_scratch4 cc0_scratch5)) := by
  iintro ⟨#J0, #J1, #J2, #J3, B0, B1, B2, B3, HO⟩ Hk
  rw [k0_part10_eq_skeleton]
  unfold k0_part10_skel
  iapply (step_depart Q K c _ Kt 0 (s_at 0 _) (src := slot0 lM) (dst := slot0 qM) N_q0) $$ [B0 HO]
  · isplitr; · iexact J0
    isplitl [B0]; · iexact B0
    iexact HO
  iintro ⟨HO, N0, G0⟩
  iapply (step_depart Q K c _ Kt 1 (s_at 1 _) (src := slot1 rM) (dst := slot1 qM) N_q1) $$ [B1 HO]
  · isplitr; · iexact J1
    isplitl [B1]; · iexact B1
    iexact HO
  iintro ⟨HO, N1, G1⟩
  iapply (step_depart Q K c _ Kt 2 (s_at 2 _) (src := slot1 lM) (dst := slot1 qM) N_q1) $$ [B2 HO]
  · isplitr; · iexact J2
    isplitl [B2]; · iexact B2
    iexact HO
  iintro ⟨HO, N2, G2⟩
  iapply (step_depart Q K c _ Kt 3 (s_at 3 _) (src := slot0 rM) (dst := slot0 qM) N_q0) $$ [B3 HO]
  · isplitr; · iexact J3
    isplitl [B3]; · iexact B3
    iexact HO
  iintro ⟨HO, N3, G3⟩
  iapply (step_ret c Kt ⟨⟩)
  iapply Hk
  isplitl [HO]; · iexact HO
  isplitl [N0]; · iexact N0
  isplitl [N1]; · iexact N1
  isplitl [N2]; · iexact N2
  isplitl [N3]; · iexact N3
  isplitl [G0]; · iexact G0
  isplitl [G1]; · iexact G1
  isplitl [G2]; · iexact G2
  iexact G3

end Parts

end Cert.KernelIdeal.Exchange
end
-- ==== Proof.Run.lean ====
/- The whole kernel at a symbolic device: from both neighbours' cells and its own buffers to the result it stores, with every
   cell of its own closed at zero. -/
module

public import proofs.«01_k».proof.Proof.Body

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ U2 ℕ

/-- What device `c` stores: its shared product and its own two experts' contributions, then those of the experts received
    from the left, the right and across, in the kernel's order. -/
def outOf (c : Dev nD) (x0 : S512x256.Idx → Elt F .f32) (x1 : S512x8.Idx → Elt F .f32) (x2 : S2x256x512.Idx → Elt F .f32)
    (x3 : S256x512.Idx → Elt F .f32) (ql qr qo : Bytes F) : S512x512.Idx → Elt F .f32 :=
  let xb := k0_pay2 x0
  let g := k0_pay3 x1
  let s1 := k0_pay4 (w2 c) x0 x1 x3 (cut R0 x2)
  let s2 := k0_pay5 xb g lanes s1 (slot (w2 c)) (cut R1 x2)
  let s3 := k0_pay8 (w7 c) xb g lanes s2 (k0_pay6 (cut R0 ql)) (k0_pay7 (w5 c) g lanes) (Scalar.ofBits .f32 0x3D000000#32) (cut R1 qr)
  let s4 := k0_pay9 xb g lanes s3 (slot (w5 c)) (cut R1 ql)
  let s5 := k0_pay13 (w2 c) xb g lanes s4 (k0_pay10 (cut R0 qr)) (k0_pay11 (w7 c) g lanes) k0_pay12 (cut R0 qo)
  k0_pay14 xb g lanes (across (w2 c)) s5 (cut R1 qo)

/-- Six resources, one for each transfer. -/
abbrev six (Φ : Fin 6 → sProp 𝕄) : sProp 𝕄 := iprop(Φ 0 ∗ Φ 1 ∗ Φ 2 ∗ Φ 3 ∗ Φ 4 ∗ Φ 5)

section Whole

variable (Q : Dev nD → Bytes F) (K : GSem nD τ sig → ℕ) (c : Dev nD)

/-- What stays available to device `c` throughout. -/
abbrev Env : sProp 𝕄 :=
  iprop(levAts L lv ∗ ci Q K (barCell (lf c)) ∗ ci Q K (barCell (rt c)) ∗ ci Q K (barCell c) ∗ reached ER (barCell (lf c)) 0 ∗ reached ER (barCell (rt c)) 0
    ∗ six (fun k => ci Q K (sendCell c k)) ∗ six (fun k => ci Q K (recvCell c k)) ∗ six (fun k => ci Q K (recvCell (peer k c) k))
    ∗ six (fun k => reached ER (sendCell c k) 0) ∗ six (fun k => reached ER (recvCell c k) 0))
/-- The duties device `c` may discharge. -/
abbrev Toks : sProp 𝕄 :=
  iprop(dutyTok ER (barCell (lf c)) 0 0 ∗ dutyTok ER (barCell (rt c)) 0 1
    ∗ six (fun k => dutyTok ER (sendCell c k) 0 0) ∗ six (fun k => dutyTok ER (recvCell (peer k c) k) 0 0))
/-- Its own cells at their start. -/
abbrev Starts : sProp 𝕄 :=
  iprop(atPos ER (barCell c) 0 ∅ 0 ∗ six (fun k => atPos ER (sendCell c k) 0 ∅ 0) ∗ six (fun k => atPos ER (recvCell c k) 0 ∅ 0))
/-- The credit its waits consume. -/
abbrev Creds : sProp 𝕄 :=
  iprop(cred (tallyAt (barCell c) () 2) ∗ six (fun k => cred (tallyAt (recvCell c k) () N)))
/-- Its own cells at zero. -/
abbrev Zeros : sProp 𝕄 :=
  iprop(semVal (barCell c) 0 ∗ six (fun k => semVal (sendCell c k) 0) ∗ six (fun k => semVal (recvCell c k) 0))

variable {α : Type} {β : Type}

theorem step_bind (p : Prog (TpuEff nD τ sig (Elt F) Λ₀ .tc) β) (k : β → Prog (TpuEff nD τ sig (Elt F) Λ₀ .tc) α) (Kt : α → sProp 𝕄) :
    run c (fun a => run c Kt (k a)) p ⊢ run c Kt (p >>= k) := Entails.of_eq (wp_bind frame _ Set.univ p k Kt).symm

theorem bar_up : (barPay 0 c : sProp 𝕄) = iprop((∃ f, mPts (slot0 lM) (rt c) fullShare f) ∗ (∃ f, mPts (slot1 lM) (rt c) fullShare f) ∗ (∃ f, mPts (slot0 oM) (rt c) fullShare f)
      ∗ reached ER (recvCell (rt c) 0) 0 ∗ reached ER (recvCell (rt c) 2) 0 ∗ reached ER (recvCell (rt c) 4) 0) := if_pos rfl
theorem bar_down : (barPay 1 c : sProp 𝕄) = iprop((∃ f, mPts (slot1 rM) (lf c) fullShare f) ∗ (∃ f, mPts (slot0 rM) (lf c) fullShare f) ∗ (∃ f, mPts (slot1 oM) (lf c) fullShare f)
      ∗ reached ER (recvCell (lf c) 1) 0 ∗ reached ER (recvCell (lf c) 3) 0 ∗ reached ER (recvCell (lf c) 5) 0) := if_neg (by decide)

/-- The buffers the left neighbour writes, handed to it. -/
theorem give_left (f g h : Bytes F) : iprop(mPts (slot0 lM) c fullShare f ∗ mPts (slot1 lM) c fullShare g ∗ mPts (slot0 oM) c fullShare h
      ∗ reached ER (recvCell c 0) 0 ∗ reached ER (recvCell c 2) 0 ∗ reached ER (recvCell c 4) 0) ⊢ (barPay 0 (lf c) : sProp 𝕄) := by
  rw [bar_up, rt_lf]
  iintro ⟨A, B, C, D⟩
  isplitl [A]; · iexists f; iexact A
  isplitl [B]; · iexists g; iexact B
  isplitl [C]; · iexists h; iexact C
  iexact D
/-- The buffers the right neighbour writes, handed to it. -/
theorem give_right (f g h : Bytes F) : iprop(mPts (slot1 rM) c fullShare f ∗ mPts (slot0 rM) c fullShare g ∗ mPts (slot1 oM) c fullShare h
      ∗ reached ER (recvCell c 1) 0 ∗ reached ER (recvCell c 3) 0 ∗ reached ER (recvCell c 5) 0) ⊢ (barPay 1 (rt c) : sProp 𝕄) := by
  rw [bar_down, lf_rt]
  iintro ⟨A, B, C, D⟩
  isplitl [A]; · iexists f; iexact A
  isplitl [B]; · iexists g; iexact B
  isplitl [C]; · iexists h; iexact C
  iexact D

/-- The quantised experts, whole again once the four departures from them are over. -/
theorem give_back_q : iprop(dmaPay Q 5 c ∗ dmaPay Q 6 c ∗ dmaPay Q 7 c ∗ dmaPay Q 8 c) ⊢ (iprop(∃ f, mPts qM c fullShare f) : sProp 𝕄) := by
  show iprop(mPts (slot0 qM) c fullShare.left (Q c) ∗ mPts (slot1 qM) c fullShare.left (Q c) ∗ mPts (slot1 qM) c fullShare.right (Q c) ∗ mPts (slot0 qM) c fullShare.right (Q c)) ⊢ _
  iintro ⟨A, B, C, D⟩
  iapply (joined qM c fullShare (Q c) (Q c))
  isplitl [A D]
  · iapply (halves (slot0 qM) c fullShare (Q c)).2
    isplitl [A]; · iexact A
    iexact D
  · iapply (halves (slot1 qM) c fullShare (Q c)).2
    isplitl [B]; · iexact B
    iexact C
/-- The buffer received from the left, whole again once its first slot has been passed on. -/
theorem give_back_l : iprop(dmaPay Q (5 + (4 : Fin 6).val) c ∗ mPts (slot0 lM) c fullShare.right (Q (lf c)) ∗ mPts (slot1 lM) c fullShare (Q (lf c))) ⊢ (iprop(∃ f, mPts lM c fullShare f) : sProp 𝕄) := by
  show iprop(mPts (slot0 lM) c fullShare.left (Q (lf c)) ∗ _ ∗ _) ⊢ _
  iintro ⟨A, B, C⟩
  iapply (joined lM c fullShare (Q (lf c)) (Q (lf c)))
  isplitl [A B]
  · iapply (halves (slot0 lM) c fullShare (Q (lf c))).2
    isplitl [A]; · iexact A
    iexact B
  iexact C
/-- The buffer received from the right, whole again once its second slot has been passed on. -/
theorem give_back_r : iprop(dmaPay Q (5 + (5 : Fin 6).val) c ∗ mPts (slot1 rM) c fullShare.right (Q (rt c)) ∗ mPts (slot0 rM) c fullShare (Q (rt c))) ⊢ (iprop(∃ f, mPts rM c fullShare f) : sProp 𝕄) := by
  show iprop(mPts (slot1 rM) c fullShare.left (Q (rt c)) ∗ _ ∗ _) ⊢ _
  iintro ⟨A, B, C⟩
  iapply (joined rM c fullShare (Q (rt c)) (Q (rt c)))
  isplitl [C]; · iexact C
  iapply (halves (slot1 rM) c fullShare (Q (rt c))).2
  isplitl [A]; · iexact A
  iexact B

variable (a0 : Memref sig .tc .vmem S512x256 .f32) (h0 : a0.IsWhole) (a1 : Memref sig .tc .vmem S512x8 .f32) (h1 : a1.IsWhole)
variable (a2 : Memref sig .tc .vmem S2x256x512 .f32) (h2 : a2.IsWhole) (a3 : Memref sig .tc .vmem S256x512 .f32) (h3 : a3.IsWhole)
variable (a4 : Memref sig .tc .vmem S512x512 .f32) (h4 : a4.IsWhole) (hq : qM.IsWhole) (hl : lM.IsWhole) (hr : rM.IsWhole) (ho : oM.IsWhole)

set_option maxHeartbeats 1600000 in
set_option backward.isDefEq.respectTransparency.types false in
/-- The kernel at device `c`: reading `x0 … x3` in its windows it leaves `outOf` of them and of the three other devices'
    quantised experts in the last, its scratch buffers at something, and its cells at zero. -/
theorem body_run (x0 : S512x256.Idx → Elt F .f32) (x1 : S512x8.Idx → Elt F .f32) (x2 : S2x256x512.Idx → Elt F .f32)
    (x3 : S256x512.Idx → Elt F .f32) (x4 : S512x512.Idx → Elt F .f32) (hQ : Q c = Gen.k0_pay1 x2) (Kt : PUnit → sProp 𝕄) :
    iprop(Env Q K c ∗ Toks c ∗ Starts c ∗ Creds c ∗ owing c (O₀ c)
      ∗ owns (c : Thread nD τ) a0 fullShare x0 ∗ owns (c : Thread nD τ) a1 fullShare x1 ∗ owns (c : Thread nD τ) a2 fullShare x2
      ∗ owns (c : Thread nD τ) a3 fullShare x3 ∗ owns (c : Thread nD τ) a4 fullShare x4
      ∗ (∃ f, mPts qM c fullShare f) ∗ (∃ f, mPts lM c fullShare f) ∗ (∃ f, mPts rM c fullShare f) ∗ (∃ f, mPts oM c fullShare f))
    ⊢ iprop((Zeros c ∗ owing c 0
      ∗ owns (c : Thread nD τ) a0 fullShare x0 ∗ owns (c : Thread nD τ) a1 fullShare x1 ∗ owns (c : Thread nD τ) a2 fullShare x2
      ∗ owns (c : Thread nD τ) a3 fullShare x3 ∗ owns (c : Thread nD τ) a4 fullShare (outOf c x0 x1 x2 x3 (Q (lf c)) (Q (rt c)) (Q (ac c)))
      ∗ (∃ f, mPts qM c fullShare f) ∗ (∃ f, mPts lM c fullShare f) ∗ (∃ f, mPts rM c fullShare f) ∗ (∃ f, mPts oM c fullShare f) -∗ Kt ⟨⟩)
      -∗ run c Kt (cc0_body (F := F) a0 h0 a1 h1 a2 h2 a3 h3 a4 h4 qM hq lM hl rM hr oM ho cc0_scratch4 cc0_scratch5)) := by
  iintro ⟨⟨#Hlev, #Ibl, #Ibr, #Ib, #Rbl, #Rbr, ⟨#J0, #J1, #J2, #J3, #J4, #J5⟩, ⟨#I0, #I1, #I2, #I3, #I4, #I5⟩, ⟨#Y0, #Y1, #Y2, #Y3, #Y4, #Y5⟩, ⟨#X0, #X1, #X2, #X3, #X4, #X5⟩, ⟨#V0, #V1, #V2, #V3, #V4, #V5⟩⟩, ⟨Tbl, Tbr, ⟨U0, U1, U2, U3, U4, U5⟩, ⟨Z0, Z1, Z2, Z3, Z4, Z5⟩⟩, ⟨Pb, ⟨PS0, PS1, PS2, PS3, PS4, PS5⟩, ⟨PR0, PR1, PR2, PR3, PR4, PR5⟩⟩, ⟨Cb, ⟨CR0, CR1, CR2, CR3, CR4, CR5⟩⟩, ⟨%W, HO⟩, W0, W1, W2, W3, W4, Hq, ⟨%fl, Hl⟩, ⟨%fr, Hr⟩, ⟨%fo, Ho⟩⟩ Hk
  rw [cc0_body_eq_skeleton]
  unfold cc0_body_skel
  ihave Hl := (split lM c fullShare fl).1 $$ Hl
  icases Hl with ⟨L0, L1⟩
  ihave Hr := (split rM c fullShare fr).1 $$ Hr
  icases Hr with ⟨M0, M1⟩
  ihave Ho := (split oM c fullShare fo).1 $$ Ho
  icases Ho with ⟨O0, O1⟩
  ihave Bl := (give_left c fl fl fo) $$ [L0 L1 O0]
  · isplitl [L0]
    · iexact L0
    isplitl [L1]
    · iexact L1
    isplitl [O0]
    · iexact O0
    isplitr
    · iexact V0
    isplitr
    · iexact V2
    iexact V4
  ihave Br := (give_right c fr fr fo) $$ [M0 M1 O1]
  · isplitl [M1]
    · iexact M1
    isplitl [M0]
    · iexact M0
    isplitl [O1]
    · iexact O1
    isplitr
    · iexact V1
    isplitr
    · iexact V3
    iexact V5
  iapply (step_bind c _ _ _)
  iapply (part1 Q K c W a0 h0 a1 h1 a2 h2 a3 h3 a4 h4 hq hl hr ho x2 _) $$ [W2 Hq HO Tbl Bl Tbr Br Cb Pb]
  · isplitl [W2]
    · iexact W2
    isplitl [Hq]
    · iexact Hq
    isplitr
    · iexact Ibl
    isplitr
    · iexact Ibr
    isplitr
    · iexact Ib
    isplitr
    · iexact Hlev
    isplitl [HO]
    · iexact HO
    isplitl [Tbl]
    · iexact Tbl
    isplitr
    · iexact Rbl
    isplitl [Bl]
    · iexact Bl
    isplitl [Tbr]
    · iexact Tbr
    isplitr
    · iexact Rbr
    isplitl [Br]
    · iexact Br
    isplitl [Cb]
    · iexact Cb
    iexact Pb
  iintro ⟨W2, Hq, HO, Eb, B0, B1⟩
  rw [← hQ]
  ihave B0 := (Entails.of_eq (bar_up c)) $$ B0
  icases B0 with ⟨D0, D2, D4, V0', V2', V4'⟩
  ihave B1 := (Entails.of_eq (bar_down c)) $$ B1
  icases B1 with ⟨D1, D3, D5, V1', V3', V5'⟩
  ihave Hq := (split qM c fullShare (Q c)).1 $$ Hq
  icases Hq with ⟨Q0, Q1⟩
  ihave Q0 := (halves (slot0 qM) c fullShare (Q c)).1 $$ Q0
  icases Q0 with ⟨S0, S3⟩
  ihave Q1 := (halves (slot1 qM) c fullShare (Q c)).1 $$ Q1
  icases Q1 with ⟨S1, S2⟩
  iapply (step_bind c _ _ _)
  iapply (part2 Q K c a0 h0 a1 h1 a2 h2 a3 h3 a4 h4 hq hl hr ho _ _ _) $$ [U0 Z0 V0' S0 D0 U1 Z1 V1' S1 D1 U2 Z2 V2' S2 D2 HO]
  · isplitl [U0 Z0 V0' S0 D0]
    · isplitr
      · isplitr
        · iexact J0
        isplitr
        · iexact X0
        iexact Y0
      isplitl [U0 Z0 V0']
      · isplitl [U0]
        · iexact U0
        isplitl [Z0]
        · iexact Z0
        iexact V0'
      isplitl [S0]
      · iexact S0
      iexact D0
    isplitl [U1 Z1 V1' S1 D1]
    · isplitr
      · isplitr
        · iexact J1
        isplitr
        · iexact X1
        iexact Y1
      isplitl [U1 Z1 V1']
      · isplitl [U1]
        · iexact U1
        isplitl [Z1]
        · iexact Z1
        iexact V1'
      isplitl [S1]
      · iexact S1
      iexact D1
    isplitl [U2 Z2 V2' S2 D2]
    · isplitr
      · isplitr
        · iexact J2
        isplitr
        · iexact X2
        iexact Y2
      isplitl [U2 Z2 V2']
      · isplitl [U2]
        · iexact U2
        isplitl [Z2]
        · iexact Z2
        iexact V2'
      isplitl [S2]
      · iexact S2
      iexact D2
    iexact HO
  iintro ⟨C0, C1, C2, HO⟩
  iapply (step_bind c _ _ _)
  iapply (part3 Q K c a0 h0 a1 h1 a2 h2 a3 h3 a4 h4 hq hl hr ho _ x0 x1 x2 x3 _) $$ [U3 Z3 V3' S3 D3 HO W0 W1 W2 W3]
  · isplitl [U3 Z3 V3' S3 D3]
    · isplitr
      · isplitr
        · iexact J3
        isplitr
        · iexact X3
        iexact Y3
      isplitl [U3 Z3 V3']
      · isplitl [U3]
        · iexact U3
        isplitl [Z3]
        · iexact Z3
        iexact V3'
      isplitl [S3]
      · iexact S3
      iexact D3
    isplitl [HO]
    · iexact HO
    isplitl [W0]
    · iexact W0
    isplitl [W1]
    · iexact W1
    isplitl [W2]
    · iexact W2
    iexact W3
  iintro ⟨C3, HO, W0, W1, W2, W3⟩
  iapply (step_bind c _ _ _)
  iapply (part4 Q K c a0 h0 a1 h1 a2 h2 a3 h3 a4 h4 hq hl hr ho _ _ _ _ _ _ x2 _) $$ [CR0 PR0 HO W2]
  · isplitr
    · iexact I0
    isplitr
    · iexact Hlev
    isplitl [CR0 PR0]
    · isplitl [CR0]
      · iexact CR0
      iexact PR0
    isplitl [HO]
    · iexact HO
    iexact W2
  iintro ⟨W2, HO, N0, G0⟩
  iapply (step_bind c _ _ _)
  iapply (part5 Q K c a0 h0 a1 h1 a2 h2 a3 h3 a4 h4 hq hl hr ho _ _ _ _) $$ [U4 Z4 V4' G0 D4 U5 Z5 V5' D5 CR1 PR1 HO]
  · isplitl [U4 Z4 V4' G0 D4]
    · isplitr
      · isplitr
        · iexact J4
        isplitr
        · iexact X4
        iexact Y4
      isplitl [U4 Z4 V4']
      · isplitl [U4]
        · iexact U4
        isplitl [Z4]
        · iexact Z4
        iexact V4'
      isplitl [G0]
      · iexact G0
      iexact D4
    isplitl [U5 Z5 V5' D5]
    · isplitr
      · isplitr
        · iexact J5
        isplitr
        · iexact X5
        iexact Y5
      isplitl [U5 Z5 V5']
      · isplitl [U5]
        · iexact U5
        isplitl [Z5]
        · iexact Z5
        iexact V5'
      iexact D5
    isplitr
    · iexact I1
    isplitr
    · iexact Hlev
    isplitl [CR1 PR1]
    · isplitl [CR1]
      · iexact CR1
      iexact PR1
    iexact HO
  iintro ⟨C4, C5, HO, N1, G0, G1⟩
  iapply (step_bind c _ _ _)
  iapply (part6 Q K c a0 h0 a1 h1 a2 h2 a3 h3 a4 h4 hq hl hr ho _ _ _ _ _ _ _ _ _ _) $$ [G1 CR2 PR2 HO]
  · isplitl [G1]
    · iexact G1
    isplitr
    · iexact I2
    isplitr
    · iexact Hlev
    isplitl [CR2 PR2]
    · isplitl [CR2]
      · iexact CR2
      iexact PR2
    iexact HO
  iintro ⟨G1, HO, N2, G2⟩
  iapply (step_bind c _ _ _)
  iapply (part7 Q K c a0 h0 a1 h1 a2 h2 a3 h3 a4 h4 hq hl hr ho _ _ _ _ _ _ _ _) $$ [G2 CR3 PR3 HO]
  · isplitl [G2]
    · iexact G2
    isplitr
    · iexact I3
    isplitr
    · iexact Hlev
    isplitl [CR3 PR3]
    · isplitl [CR3]
      · iexact CR3
      iexact PR3
    iexact HO
  iintro ⟨G2, HO, N3, G3⟩
  iapply (step_bind c _ _ _)
  iapply (part8 Q K c a0 h0 a1 h1 a2 h2 a3 h3 a4 h4 hq hl hr ho _ _ _ _ _ _ _ _ _ _) $$ [CR4 PR4 HO]
  · isplitr
    · iexact I4
    isplitr
    · iexact Hlev
    isplitl [CR4 PR4]
    · isplitl [CR4]
      · iexact CR4
      iexact PR4
    iexact HO
  iintro ⟨HO, N4, G4⟩
  iapply (step_bind c _ _ _)
  iapply (part9 Q K c a0 h0 a1 h1 a2 h2 a3 h3 a4 h4 hq hl hr ho _ _ _ _ _ _ _) $$ [CR5 PR5 HO]
  · isplitr
    · iexact I5
    isplitr
    · iexact Hlev
    isplitl [CR5 PR5]
    · isplitl [CR5]
      · iexact CR5
      iexact PR5
    iexact HO
  iintro ⟨HO, N5, G5⟩
  iapply (step_bind c _ _ _)
  iapply (part10 Q K c a0 h0 a1 h1 a2 h2 a3 h3 a4 h4 hq hl hr ho _) $$ [C0 PS0 C1 PS1 C2 PS2 C3 PS3 HO]
  · isplitr
    · iexact J0
    isplitr
    · iexact J1
    isplitr
    · iexact J2
    isplitr
    · iexact J3
    isplitl [C0 PS0]
    · isplitl [C0]
      · iexact C0
      iexact PS0
    isplitl [C1 PS1]
    · isplitl [C1]
      · iexact C1
      iexact PS1
    isplitl [C2 PS2]
    · isplitl [C2]
      · iexact C2
      iexact PS2
    isplitl [C3 PS3]
    · isplitl [C3]
      · iexact C3
      iexact PS3
    iexact HO
  iintro ⟨HO, M0, M1, M2, M3, S0, S1, S2, S3⟩
  iapply (step_depart Q K c _ Kt 4 (s_at 4 _) (src := slot0 oM) (dst := slot0 lM) N_l0) $$ [C4 PS4 HO]
  · isplitr
    · iexact J4
    isplitl [C4 PS4]
    · isplitl [C4]
      · iexact C4
      iexact PS4
    iexact HO
  iintro ⟨HO, M4, S4⟩
  iapply (step_depart Q K c _ Kt 5 (s_at 5 _) (src := slot1 oM) (dst := slot1 rM) N_r1) $$ [C5 PS5 HO]
  · isplitr
    · iexact J5
    isplitl [C5 PS5]
    · isplitl [C5]
      · iexact C5
      iexact PS5
    iexact HO
  iintro ⟨HO, M5, S5⟩
  iapply (step_load_full c Kt a4 ![0, 0] (by decide) inb_S512x512_S512x512_0_0 x4 _) $$ W4
  iintro W4
  iapply (step_store c Kt a4 ![0, 0] (by decide) inb_S512x512_S512x512_0_0 (outOf c x0 x1 x2 x3 (Q (lf c)) (Q (rt c)) (Q (ac c))) x4 _) $$ W4
  iintro W4
  ihave Hq := (give_back_q Q c) $$ [S0 S1 S2 S3]
  · isplitl [S0]; · iexact S0
    isplitl [S1]; · iexact S1
    isplitl [S2]; · iexact S2
    iexact S3
  ihave Hl := (give_back_l Q c) $$ [S4 G0 G2]
  · isplitl [S4]; · iexact S4
    isplitl [G0]; · iexact G0
    iexact G2
  ihave Hr := (give_back_r Q c) $$ [S5 G1 G3]
  · isplitl [S5]; · iexact S5
    isplitl [G1]; · iexact G1
    iexact G3
  ihave Ho := (joined oM c fullShare (Q (ac c)) (Q (ac c))) $$ [G4 G5]
  · isplitl [G4]; · iexact G4
    iexact G5
  imod (close Q (K (barCell c)) (barCell c)) $$ [Eb] with Eb
  · isplitr; · iexact Ib
    iexact Eb
  imod (close Q (K (sendCell c 0)) (sendCell c 0)) $$ [M0] with M0
  · isplitr; · iexact J0
    iexact M0
  imod (close Q (K (sendCell c 1)) (sendCell c 1)) $$ [M1] with M1
  · isplitr; · iexact J1
    iexact M1
  imod (close Q (K (sendCell c 2)) (sendCell c 2)) $$ [M2] with M2
  · isplitr; · iexact J2
    iexact M2
  imod (close Q (K (sendCell c 3)) (sendCell c 3)) $$ [M3] with M3
  · isplitr; · iexact J3
    iexact M3
  imod (close Q (K (sendCell c 4)) (sendCell c 4)) $$ [M4] with M4
  · isplitr; · iexact J4
    iexact M4
  imod (close Q (K (sendCell c 5)) (sendCell c 5)) $$ [M5] with M5
  · isplitr; · iexact J5
    iexact M5
  imod (close Q (K (recvCell c 0)) (recvCell c 0)) $$ [N0] with N0
  · isplitr; · iexact I0
    iexact N0
  imod (close Q (K (recvCell c 1)) (recvCell c 1)) $$ [N1] with N1
  · isplitr; · iexact I1
    iexact N1
  imod (close Q (K (recvCell c 2)) (recvCell c 2)) $$ [N2] with N2
  · isplitr; · iexact I2
    iexact N2
  imod (close Q (K (recvCell c 3)) (recvCell c 3)) $$ [N3] with N3
  · isplitr; · iexact I3
    iexact N3
  imod (close Q (K (recvCell c 4)) (recvCell c 4)) $$ [N4] with N4
  · isplitr; · iexact I4
    iexact N4
  imod (close Q (K (recvCell c 5)) (recvCell c 5)) $$ [N5] with N5
  · isplitr; · iexact I5
    iexact N5
  iapply (step_ret c Kt ⟨⟩)
  iapply Hk
  isplitl [Eb M0 M1 M2 M3 M4 M5 N0 N1 N2 N3 N4 N5]
  · isplitl [Eb]
    · iexact Eb
    isplitl [M0 M1 M2 M3 M4 M5]
    · isplitl [M0]
      · iexact M0
      isplitl [M1]
      · iexact M1
      isplitl [M2]
      · iexact M2
      isplitl [M3]
      · iexact M3
      isplitl [M4]
      · iexact M4
      iexact M5
    isplitl [N0]
    · iexact N0
    isplitl [N1]
    · iexact N1
    isplitl [N2]
    · iexact N2
    isplitl [N3]
    · iexact N3
    isplitl [N4]
    · iexact N4
    iexact N5
  isplitl [HO]
  · iexact HO
  isplitl [W0]
  · iexact W0
  isplitl [W1]
  · iexact W1
  isplitl [W2]
  · iexact W2
  isplitl [W3]
  · iexact W3
  isplitl [W4]
  · iexact W4
  isplitl [Hq]
  · iexact Hq
  isplitl [Hl]
  · iexact Hl
  isplitl [Hr]
  · iexact Hr
  iexact Ho

end Whole

end Cert.KernelIdeal.Exchange
end
-- ==== Proof.Region.lean ====
/- The kernel's call as a region of the program: what it is entered with, what it leaves in its result's array, and how its own
   cells are opened at the entry. -/
module

public import proofs.«01_k».proof.Proof.Run
public import Idealize.ShloMosaic.Lib.Pipeline.FrameTail
public import Idealize.ShloMosaic.Lib.Pipeline.ValueKit

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ U2 ℕ

variable (m : (ℓ : Loc nD τ sig) → Buf (Elt F) ℓ)

/-- A core's buffers at launch, and when the call is reached. -/
def Vst (c : Dev nD) : Valuation τ sig (Elt F) := fun b => m (c, b)
def Ven (c : Dev nD) : Valuation τ sig (Elt F) := StableHlo.after hostOps0_1 (StableHlo.after hostOps0 (Vst m c))

theorem Ven_eq (c : Dev nD) (b : Ref sig .tc) : V m c b = Ven m c b := by
  show StableHlo.after (List.flatten [hostOps0, hostOps0_1]) (fun b => m (c, b)) b = _
  rw [List.flatten_cons, List.flatten_cons, List.flatten_nil, List.append_nil, StableHlo.after_append]
  rfl

/-- The four operands a device reads. -/
def x0 (c : Dev nD) : S512x256.Idx → Elt F .f32 := iblk m c 0 t0_0
def x1 (c : Dev nD) : S512x8.Idx → Elt F .f32 := iblk m c 1 t0_0
def x2 (c : Dev nD) : S2x256x512.Idx → Elt F .f32 := iblk m c 2 t0_0
def x3 (c : Dev nD) : S256x512.Idx → Elt F .f32 := iblk m c 3 t0_0

/-- What a device sends round: its two experts, quantised. -/
def sent (c : Dev nD) : Bytes F := k0_pay1 (x2 m c)
/-- What a device leaves in its result. -/
def left (c : Dev nD) : S512x512.Idx → Elt F .f32 :=
  outOf c (x0 m c) (x1 m c) (x2 m c) (x3 m c) (sent m (lf c)) (sent m (rt c)) (sent m (ac c))

/-! ## The kernel's own cells -/

def osem : Fin 2 × Fin 6 → SemLoc sig
  | (0, k) => .dma (sS k)
  | (1, k) => .dma (rS k)

theorem six_eq (Φ : Fin 6 → sProp 𝕄) : bigSep Finset.univ Φ = six Φ :=
  bigSep_univ_eq_bigSepL [(0 : Fin 6), 1, 2, 3, 4, 5] (by decide) (by decide) Φ

theorem pairs_eq (Φ : Fin 2 × Fin 6 → sProp 𝕄) : bigSep Finset.univ Φ = iprop(six (fun k => Φ (0, k)) ∗ six (fun k => Φ (1, k))) := by
  rw [bigSep_univ_prod, BI.bigSep_fin_two, six_eq, six_eq]
  rfl

theorem own_eq (c : Dev nD) : (Pipeline.ownSems0 osem c : sProp 𝕄)
    = iprop(six (fun k => semVal (sendCell c k) 0) ∗ six (fun k => semVal (recvCell c k) 0)) :=
  pairs_eq (fun k => (semVal ((c : Thread nD τ), osem k) 0 : sProp 𝕄))

/-- What device `c` has of the protocol before its own cells are opened. -/
def ghost (K : GSem nD τ sig → ℕ) (c : Dev nD) : sProp 𝕄 :=
  iprop((ci (sent m) K (barCell (lf c)) ∗ ci (sent m) K (barCell (rt c)) ∗ ci (sent m) K (barCell c) ∗ reached ER (barCell (lf c)) 0 ∗ reached ER (barCell (rt c)) 0
      ∗ six (fun k => ci (sent m) K (sendCell c k)) ∗ six (fun k => ci (sent m) K (recvCell c k)) ∗ six (fun k => ci (sent m) K (recvCell (peer k c) k)))
    ∗ Toks c ∗ atPos ER (barCell c) 0 ∅ 0 ∗ six (fun k => openTok ER (sendCell c k)) ∗ six (fun k => openTok ER (recvCell c k)))

/-- What the program's launch keeps for the call, and that with the cells opened. -/
def Tk (c : Dev nD) : sProp 𝕄 := iprop((∃ K, ghost m K c) ∗ Creds c)
def Xk (c : Dev nD) : sProp 𝕄 := iprop((∃ K, Env (sent m) K c) ∗ Toks c ∗ Starts c ∗ Creds c)
def Yk (c : Dev nD) : sProp 𝕄 := semVal (barCell c) 0

theorem open_send (K : GSem nD τ sig → ℕ) (c : Dev nD) (k : Fin 6) :
    iprop(ci (sent m) K (sendCell c k) ∗ openTok ER (sendCell c k) ∗ semVal (sendCell c k) 0)
      ⊢ (|={Set.univ}=> iprop(atPos ER (sendCell c k) 0 ∅ 0 ∗ reached ER (sendCell c k) 0) : sProp 𝕄) :=
  Rounds.cell_open ER (rd (sent m)) (g := sendCell c k) (Set.mem_univ (K (sendCell c k)))
theorem open_recv (K : GSem nD τ sig → ℕ) (c : Dev nD) (k : Fin 6) :
    iprop(ci (sent m) K (recvCell c k) ∗ openTok ER (recvCell c k) ∗ semVal (recvCell c k) 0)
      ⊢ (|={Set.univ}=> iprop(atPos ER (recvCell c k) 0 ∅ 0 ∗ reached ER (recvCell c k) 0) : sProp 𝕄) :=
  Rounds.cell_open ER (rd (sent m)) (g := recvCell c k) (Set.mem_univ (K (recvCell c k)))

/-- Six updates, one for each transfer, at once. -/
theorem six_open (A B C D E : Fin 6 → sProp 𝕄)
    (h : ∀ k, iprop(A k ∗ B k ∗ C k) ⊢ (|={Set.univ}=> iprop(D k ∗ E k) : sProp 𝕄)) :
    iprop(six A ∗ six B ∗ six C) ⊢ (|={Set.univ}=> iprop(six D ∗ six E) : sProp 𝕄) := by
  rw [← six_eq A, ← six_eq B, ← six_eq C, ← six_eq D, ← six_eq E, ← bigSep_sep', ← bigSep_sep', ← bigSep_sep']
  exact (bigSep_mono fun k _ => h k).trans (bigSep_fupd _ _)

theorem hopen (c : Dev nD) : iprop(Tk m c ∗ Pipeline.ownSems0 osem c ∗ levAts L lv) ⊢ (|={Set.univ}=> Xk m c : sProp 𝕄) := by
  rw [own_eq]
  unfold Tk Xk ghost
  iintro ⟨⟨⟨%K, ⟨#A1, #A2, #A3, #A4, #A5, #A6, #A7, #A8⟩, HT, HB, HoS, HoR⟩, HC⟩, ⟨HvS, HvR⟩, #HL⟩
  imod (six_open (fun k => ci (sent m) K (sendCell c k)) (fun k => openTok ER (sendCell c k)) (fun k => semVal (sendCell c k) 0)
    (fun k => atPos ER (sendCell c k) 0 ∅ 0) (fun k => reached ER (sendCell c k) 0) (open_send m K c)) $$ [HoS HvS] with ⟨HS, #RS⟩
  · isplitr; · iexact A6
    isplitl [HoS]; · iexact HoS
    iexact HvS
  imod (six_open (fun k => ci (sent m) K (recvCell c k)) (fun k => openTok ER (recvCell c k)) (fun k => semVal (recvCell c k) 0)
    (fun k => atPos ER (recvCell c k) 0 ∅ 0) (fun k => reached ER (recvCell c k) 0) (open_recv m K c)) $$ [HoR HvR] with ⟨HR, #RR⟩
  · isplitr; · iexact A7
    isplitl [HoR]; · iexact HoR
    iexact HvR
  imodintro
  isplitr [HT HB HS HR HC]
  · iexists K
    isplitr; · iexact HL
    isplitr; · iexact A1
    isplitr; · iexact A2
    isplitr; · iexact A3
    isplitr; · iexact A4
    isplitr; · iexact A5
    isplitr; · iexact A6
    isplitr; · iexact A7
    isplitr; · iexact A8
    isplitr; · iexact RS
    iexact RR
  isplitl [HT]; · iexact HT
  isplitl [HB HS HR]
  · isplitl [HB]; · iexact HB
    isplitl [HS]; · iexact HS
    iexact HR
  iexact HC

/-! ## The proof data of the call -/

def dat (c : Dev nD) : Dat τ (Elt F) Unit ℕ U2 ℕ cfg0 c where
  A w := V m c (Pipeline.arrRef spec0 w)
  after
    | 0 => fun _ => x0 m c
    | 1 => fun _ => x1 m c
    | 2 => fun _ => x2 m c
    | 3 => fun _ => x3 m c
    | 4 => fun _ => left m c
    | ⟨_ + 5, h⟩ => absurd h (Nat.not_lt.2 (Nat.le_add_left _ _))
  Φ t := if t.val = 0 then iprop(Pipeline.scopedRest spec0 c ∗ (∃ r, prngReg c r) ∗ Xk m c)
    else iprop(Pipeline.scopedRest spec0 c ∗ (∃ r, prngReg c r) ∗ Pipeline.ownSems0 osem c ∗ Yk c)
  q _ := fullShare
  owed t := if t.val = 0 then O₀ c else 0

/-- A window's staging buffer holds its operand when the body starts. -/
theorem found0 (c : Dev nD) (t : Fin cfg0.N) (e) : (dat m c).before 0 t e = x0 m c := by
  obtain rfl := fin_N0 t
  exact ((dat m c).before_in_eq_fetched 0 rfl (fun _ => rfl) (fun _ _ _ => rfl)
      (fun t => by obtain rfl := fin_N0 t; show x0 m c = _; unfold Dat.blockOf x0 iblk; rfl) _ e).trans
    (by unfold Dat.fetched Dat.blockOf x0 iblk; rfl)
theorem found1 (c : Dev nD) (t : Fin cfg0.N) (e) : (dat m c).before 1 t e = x1 m c := by
  obtain rfl := fin_N0 t
  exact ((dat m c).before_in_eq_fetched 1 rfl (fun _ => rfl) (fun _ _ _ => rfl)
      (fun t => by obtain rfl := fin_N0 t; show x1 m c = _; unfold Dat.blockOf x1 iblk; rfl) _ e).trans
    (by unfold Dat.fetched Dat.blockOf x1 iblk; rfl)
theorem found2 (c : Dev nD) (t : Fin cfg0.N) (e) : (dat m c).before 2 t e = x2 m c := by
  obtain rfl := fin_N0 t
  exact ((dat m c).before_in_eq_fetched 2 rfl (fun _ => rfl) (fun _ _ _ => rfl)
      (fun t => by obtain rfl := fin_N0 t; show x2 m c = _; unfold Dat.blockOf x2 iblk; rfl) _ e).trans
    (by unfold Dat.fetched Dat.blockOf x2 iblk; rfl)
theorem found3 (c : Dev nD) (t : Fin cfg0.N) (e) : (dat m c).before 3 t e = x3 m c := by
  obtain rfl := fin_N0 t
  exact ((dat m c).before_in_eq_fetched 3 rfl (fun _ => rfl) (fun _ _ _ => rfl)
      (fun t => by obtain rfl := fin_N0 t; show x3 m c = _; unfold Dat.blockOf x3 iblk; rfl) _ e).trans
    (by unfold Dat.fetched Dat.blockOf x3 iblk; rfl)

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)

theorem owes_in (c : Dev nD) (t : Fin (cfg0.N + 1)) (O : CellTallies nD τ sig Unit) (h0 : (dat m c).owed t = O) :
    owing (F := F) c O ⊢ ((dat m c).owesAt () t : sProp 𝕄) := by
  unfold owing Dat.owesAt Pipeline.owesWithin Dat.bound; rw [h0]
  iintro ⟨%W, HO⟩; iexists W; isplitr; · ipureintro; exact fun _ _ => Or.inl trivial
  iexact HO
theorem owes_out (c : Dev nD) (t : Fin (cfg0.N + 1)) (O : CellTallies nD τ sig Unit) (h0 : (dat m c).owed t = O) :
    ((dat m c).owesAt () t : sProp 𝕄) ⊢ owing (F := F) c O := by
  unfold owing Dat.owesAt Pipeline.owesWithin; rw [h0]
  iintro ⟨%W, -, HO⟩; iexists W; iexact HO

/-- A kernel's buffer, at contents not chosen, as the call's boundary holds it and as the body does. -/
theorem scratch (b : Ref sig .tc) (c : Dev nD) :
    (iprop(∃ f : Buf (Elt F) ((c : Thread nD τ).loc b), ((c : Thread nD τ).loc b) ↦{fullShare} f) : sProp 𝕄)
      = iprop(∃ f, (Memref.whole b).view.loc (c : Thread nD τ) ↦[(Memref.whole b).view.set]{fullShare} f) := by
  simp only [Memref.view_whole, View.set_whole]
theorem scratches (c : Dev nD) : (Pipeline.scopedRest spec0 c : sProp 𝕄)
    = iprop((∃ f, mPts qM c fullShare f) ∗ (∃ f, mPts lM c fullShare f) ∗ (∃ f, mPts rM c fullShare f) ∗ (∃ f, mPts oM c fullShare f)) := by
  rw [scopedRest0_eq, scratch, scratch, scratch, scratch]

set_option backward.isDefEq.respectTransparency.types false in
/-- The body keeps its obligation at the only point: the run of the body, between the two states of the call. -/
theorem body_ok (c : Dev nD) : BodyObligation (dat m c) defs₀ 𝒱₀ () Set.univ := fun t => by
  obtain rfl := fin_N0 t
  rw [bigSep_W0, bigSep_W0]
  rw [show (dat m c).Φ t0_0.castSucc = iprop(Pipeline.scopedRest spec0 c ∗ (∃ r, prngReg c r) ∗ Xk m c) from rfl,
    show (dat m c).Φ t0_0.succ = iprop(Pipeline.scopedRest spec0 c ∗ (∃ r, prngReg c r) ∗ Pipeline.ownSems0 osem c ∗ Yk c) from rfl,
    scratches, own_eq]
  simp only [found0, found1, found2, found3]
  unfold Xk Yk
  iintro ⟨⟨⟨Hq, Hl, Hr, Ho⟩, Hp, ⟨%K, HE⟩, HT, HS, HC⟩, HO, ⟨%d0, H0⟩, ⟨%d1, H1⟩, ⟨%d2, H2⟩, ⟨%d3, H3⟩, ⟨%d4, H4⟩⟩
  ihave HO := (owes_out m c _ _ (owed_first m c)) $$ HO
  iapply (body_run (sent m) K c (st0_0 t0_0) _ (st0_1 t0_0) _ (st0_2 t0_0) _ (st0_3 t0_0) _ (st0_4 t0_0) _ _ _ _ _
    (x0 m c) (x1 m c) (x2 m c) (x3 m c) ((dat m c).before 4 t0_0 d4) rfl _) $$ [HE HT HS HC HO H0 H1 H2 H3 H4 Hq Hl Hr Ho]
  · isplitl [HE]; · iexact HE
    isplitl [HT]; · iexact HT
    isplitl [HS]; · iexact HS
    isplitl [HC]; · iexact HC
    isplitl [HO]; · iexact HO
    isplitl [H0]; · iexact H0
    isplitl [H1]; · iexact H1
    isplitl [H2]; · iexact H2
    isplitl [H3]; · iexact H3
    isplitl [H4]; · iexact H4
    isplitl [Hq]; · iexact Hq
    isplitl [Hl]; · iexact Hl
    isplitl [Hr]; · iexact Hr
    iexact Ho
  iintro ⟨⟨Hb, HvS, HvR⟩, HO, H0, H1, H2, H3, H4, Hq, Hl, Hr, Ho⟩
  ihave HO := (owes_in m c _ _ (owed_last m c)) $$ HO
  isplitl [Hb HvS HvR Hq Hl Hr Ho Hp]
  · isplitl [Hq Hl Hr Ho]
    · isplitl [Hq]; · iexact Hq
      isplitl [Hl]; · iexact Hl
      isplitl [Hr]; · iexact Hr
      iexact Ho
    isplitl [Hp]; · iexact Hp
    isplitl [HvS HvR]
    · isplitl [HvS] <;> iassumption
    iexact Hb
  isplitl [HO]; · iexact HO
  isplitl [H0]; · iexact H0
  isplitl [H1]; · iexact H1
  isplitl [H2]; · iexact H2
  isplitl [H3]; · iexact H3
  iexact H4

/-! ## The call as a segment of the program -/

abbrev adm : (p : Fin 1) → (pcfgs (F := F) p).Adm := fun p => (cfgs p).toPCfg_adm
def pdats : (p : Fin 1) → (c : Dev nD) → Dat τ (Elt F) Unit ℕ U2 ℕ (Pipeline.pin (pcfgs (F := F)) adm p) c
  | 0 => dat m

/-- A core's buffers after the call, and those that are no window's array. -/
def Vex (c : Dev nD) : Valuation τ sig (Elt F) := Pipeline.afterRegion (dat m c) (Ven m c)
def others : Finset (DevRef τ sig) := Pipeline.ucRefs τ sig \ Pipeline.arrRefs spec0

theorem kit : Pipeline.PLaunchFacts (nD := nD) (τ := τ) (pcfgs (F := F)) 0 := launch0.toP

theorem owed_zero (c : Dev nD) : (pdats m 0 c).owed 0 = O₀ c := owed_first m c
theorem owed_end (c : Dev nD) : (pdats m 0 c).owed (Fin.last _) = 0 := owed_last m c

/-- What is owed while the call runs lies above the level its staging cells are waited at. -/
theorem above (c : Dev nD) (t : Fin ((Pipeline.pin (pcfgs (F := F)) adm 0).N + 1)) (g : GSem nD τ sig) (u : Unit)
    (h : 0 < (pdats m 0 c).owed t g u) : u ∈ L g ∧ (0 : ℕ) < lv g u := by
  have e : (pdats m 0 c).owed t = if t.val = 0 then O₀ c else 0 := rfl
  rw [e] at h
  split at h
  · unfold O₀ at h
    rw [Pi.add_apply, Finsupp.add_apply, Pi.add_apply, Finsupp.add_apply] at h
    rcases Nat.add_pos_iff_pos_or_pos.mp h with h | h
    · rcases Nat.add_pos_iff_pos_or_pos.mp h with h | h
      · obtain ⟨d, k, rfl⟩ := owe0_pos h
        exact ⟨by rw [L_tc]; exact Finset.mem_singleton_self _, by rw [lv_recv]; split <;> decide⟩
      · obtain rfl := tally_pos h
        exact ⟨by rw [L_tc]; exact Finset.mem_singleton_self _, Nat.zero_lt_one⟩
    · obtain rfl := tally_pos h
      exact ⟨by rw [L_tc]; exact Finset.mem_singleton_self _, Nat.zero_lt_one⟩
  · exact absurd h (Nat.lt_irrefl 0)

theorem held_none (c : Dev nD) (W : Valuation τ sig (Elt F)) : (StableHlo.held (c.tc : Thread nD τ) ∅ W : sProp 𝕄) = BI.emp := BI.bigSep_empty

theorem hin (c : Dev nD) : iprop(Pipeline.scopedRest (Pipeline.pin (pcfgs (F := F)) adm 0).spec c ∗ (∃ r, prngReg c r) ∗ StableHlo.held (c.tc : Thread nD τ) ∅ (Ven m c) ∗ Xk m c)
    ⊢ (pdats m 0 c).Φ 0 := by
  rw [show (pdats m 0 c).Φ 0 = iprop(Pipeline.scopedRest spec0 c ∗ (∃ r, prngReg c r) ∗ Xk m c) from rfl, held_none]
  iintro ⟨Hs, Hp, -, Hx⟩
  isplitl [Hs]; · iexact Hs
  isplitl [Hp]; · iexact Hp
  iexact Hx

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (Vex m c) ∗ Pipeline.ownSems0 osem c ∗ Yk c) := by
  rw [show (pdats m 0 c).Φ (Fin.last _) = iprop(Pipeline.scopedRest spec0 c ∗ (∃ r, prngReg c r) ∗ Pipeline.ownSems0 osem c ∗ Yk c) from rfl, held_none]
  iintro ⟨Hs, Hp, Hv, Hy⟩
  isplitl [Hs]; · iexact Hs
  isplitl [Hp]; · iexact Hp
  isplitr; · iempintro
  isplitl [Hv]; · iexact Hv
  iexact Hy

theorem not_array (b : DevRef τ sig) (hb : b ∈ others) (w : Fin cfg0.W) : b ≠ Proc.devRef .tc (Pipeline.arrRef cfg0.spec w) := by
  rintro rfl
  exact (Finset.mem_sdiff.mp hb).2 (Finset.mem_map_of_mem _ (Finset.mem_image_of_mem _ (Finset.mem_univ w)))

/-- The staging cells are waited at the bottom level. -/
theorem staging (w : Fin cfg0.W) (s : Fin (cfg0.win w).nbuf) : ((cfg0.win w).sem s).val < 11 :=
  (by decide : ∀ (w : Fin cfg0.W) (s : Fin (cfg0.win w).nbuf), ((cfg0.win w).sem s).val < 11) w s
theorem cell_low (c : Dev nD) (w : Fin cfg0.W) (s : Fin (cfg0.win w).nbuf) :
    lv ((c : Thread nD τ), SemLoc.dma ((cfg0.win w).sem s)) () ≤ 0 :=
  le_of_eq (if_pos (staging w s))
theorem other_kept (c : Dev nD) (b : DevRef τ sig) (hb : b ∈ others) : Vex m c b = Ven m c b := by
  unfold Vex Pipeline.afterRegion
  rw [dif_neg]
  rintro ⟨w, hw⟩
  exact not_array b hb w hw

theorem array_in (c : Dev nD) (w : Fin cfg0.W) : (dat m c).arrAt w 0 = Ven m c (Proc.devRef .tc (Pipeline.arrRef spec0 w)) := by
  rw [← Ven_eq]; rfl
theorem array_out (c : Dev nD) (w : Fin cfg0.W) : (dat m c).arrAt w cfg0.N = Vex m c (Proc.devRef .tc (Pipeline.arrRef spec0 w)) :=
  (Pipeline.afterRegion_arr (dat m c) (Ven m c) launch0.win.arr_inj w).symm

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit rfl (fun c => (body_ok m c).loose)
    (fun _ => 0) O₀ (fun c => (owed_zero m c).trans (zero_add _).symm) (owed_end m) (fun _ => rfl) (fun _ w => by unfold Dat.share; split <;> rfl)
    (Ven m) (Vex m) (fun c b hb => other_kept m c b (Finset.mem_sdiff.mp hb).1)
    (Tk m) Yk (Xk m) Yk (hopen m) (hin m) (hout m)
    (fun c => by iintro H; imodintro; iexact H)
    (fun _ => 0)
    ⟨fun c w => fun s => by rw [L_tc]; exact Finset.mem_singleton_self _, fun c w => cell_low c w, fun c t g i h => above m c t g i h⟩
    (fun _ => iprop(emp))
    (fun c w => array_in m c w) (fun c w => array_out m c w)

/-- What rides beside the buffers up to the call. -/
def R (c : Dev nD) : sProp 𝕄 := iprop(Tk m c ∗ (∃ r, prngReg c r) ∗ owing c (O₀ c))

theorem arrays_sub : (Pipeline.arrRefs (τ := τ) spec0) ⊆ Pipeline.ucRefs τ sig :=
  Pipeline.arrRefs_sub_ucRefs _ (by decide)

theorem held_split (c : Dev nD) (W : Valuation τ sig (Elt F)) : (StableHlo.held (c : Thread nD τ) (Pipeline.ucRefs τ sig) W : sProp 𝕄)
    = iprop(StableHlo.held (c : Thread nD τ) (Pipeline.arrRefs spec0) W ∗ StableHlo.held (c : Thread nD τ) others W) :=
  StableHlo.held_sub_split (c : Thread nD τ) arrays_sub W

theorem reg_pre (c : Dev nD) : iprop(StableHlo.held (c : Thread nD τ) (Pipeline.ucRefs τ sig) (Ven m c) ∗ R m c) ⊢ (reg m).pre c := by
  show _ ⊢ iprop(StableHlo.held (c.tc : Thread nD τ) (Pipeline.arrRefs spec0) (Ven m c) ∗ (∃ r, prngReg c r)
    ∗ (StableHlo.held (c.tc : Thread nD τ) others (Ven m c) ∗ emp) ∗ Tk m c ∗ ∃ Wd, owes (c : Thread nD τ) (0 + O₀ c) Wd)
  rw [held_split, zero_add]
  unfold R owing
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg_post (c : Dev nD) : (reg m).post c
    ⊢ iprop((StableHlo.held (c : Thread nD τ) (Pipeline.ucRefs τ sig) (Vex m c) ∗ semVal (barCell c) 0)
      ∗ ∃ W, owes (c : Thread nD τ) (0 : CellTallies nD τ sig Unit) W) := by
  show iprop(StableHlo.held (c.tc : Thread nD τ) (Pipeline.arrRefs spec0) (Vex m c) ∗ (∃ r, prngReg c r)
    ∗ (StableHlo.held (c.tc : Thread nD τ) others (Vex m c) ∗ emp) ∗ Yk c ∗ ∃ Wd, owes (c : Thread nD τ) (0 : CellTallies nD τ sig Unit) Wd) ⊢ _
  rw [held_split]
  unfold Yk
  iintro ⟨Ha, -, ⟨Ho, -⟩, Hb, HO⟩
  isplitr [HO]
  · isplitl [Ha Ho]
    · isplitl [Ha]; · iexact Ha
      iexact Ho
    iexact Hb
  iexact HO

/-- The program: its two stretches of host operations, then the call. -/
def segs : List (Pipeline.Seg (pcfgs (F := F)) adm (pdats m) () defs₀ 𝒱₀ L lv) :=
  [.host (Pipeline.HostSeg.ofOps _ _ _ _ _ (Pipeline.ucRefs τ sig) hostOps0
      (fun op h => Pipeline.sub_ucRefs op (List.forall_iff_forall_mem.mp hostOps0_sub op h)) (List.forall_iff_forall_mem.mp hostOps0_fresh) (Vst m) (R m)),
    .host (Pipeline.HostSeg.ofOps _ _ _ _ _ (Pipeline.ucRefs τ sig) hostOps0_1
      (fun op h => Pipeline.sub_ucRefs op (List.forall_iff_forall_mem.mp hostOps0_1_sub op h)) (List.forall_iff_forall_mem.mp hostOps0_1_fresh)
      (fun c => StableHlo.after hostOps0 (Vst m c)) (R m)),
    .region (reg m)]

theorem main_eq (c : Dev nD) : main (F := F) c = Pipeline.Seg.run (segs m) := by
  rw [main_chain, Pipeline.Seg.run_eq_chain]; rfl

end Cert.KernelIdeal.Exchange
end
-- ==== Proof.Launch.lean ====
/- The launch: every cell's protocol allocated and dealt to the four devices, and the program's run. -/
module

public import proofs.«01_k».proof.Proof.Region
public import Idealize.ShloMosaic.Harness.Basic
public import Idealize.ShloMosaic.Adequacy
public import Idealize.ShloMosaic.Lib.Quiescent

@[expose] public section

noncomputable section

namespace Cert.KernelIdeal.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ U2 ℕ

variable (m : (ℓ : Loc nD τ sig) → Buf (Elt F) ℓ) (ρ : Dev nD → PrngReg)

/-! ## Cells and tokens -/

theorem osem_inj : Function.Injective osem := by decide
theorem osem_ne : ∀ k, osem k ≠ .reg barrier0 := by decide

def barEmb : Dev nD ↪ GSem nD τ sig := ⟨fun c => barCell c, fun _ _ h => congrArg (fun g : GSem nD τ sig => g.1.1) h⟩
def dmaEmb : Dev nD × (Fin 2 × Fin 6) ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, funded from their counters, and the transfers' cells, funded for their kernel to open. -/
abbrev barCells : Finset (GSem nD τ sig) := Finset.univ.map barEmb
abbrev dmaCells : Finset (GSem nD τ sig) := Finset.univ.map dmaEmb

/-- A device's fourteen duties: its barrier's two and one at each transfer cell. -/
def duty (ik : Fin 2 × Fin 7) : SemLoc sig × Fin 2 :=
  Fin.cases (.reg barrier0, ik.1) (fun k => (osem (ik.1, k), 0)) ik.2
theorem duty_inj : Function.Injective duty := by decide

def tokens : Finset (GSem nD τ sig × ℕ × Fin 2) :=
  Finset.univ.map ⟨fun ck : Dev nD × (Fin 2 × Fin 7) => (((ck.1 : Thread nD τ), (duty ck.2).1), 0, (duty ck.2).2), fun _ _ h =>
    Prod.ext (congrArg (fun t : GSem nD τ sig × ℕ × Fin 2 => t.1.1.1) h)
      (duty_inj (Prod.ext (congrArg (fun t : GSem nD τ sig × ℕ × Fin 2 => t.1.2) h) (congrArg (fun t : GSem nD τ sig × ℕ × Fin 2 => t.2.2) h)))⟩

theorem cells_apart : Disjoint (barCells : Finset (GSem nD τ sig)) dmaCells := by
  rw [Finset.disjoint_left]
  rintro g h₁ h₂
  obtain ⟨c, -, rfl⟩ := Finset.mem_map.mp h₁
  obtain ⟨ck, -, h⟩ := Finset.mem_map.mp h₂
  exact osem_ne ck.2 (congrArg Prod.snd h)

theorem bar_mem (c : Dev nD) : barCell c ∈ (barCells ∪ dmaCells : Finset (GSem nD τ sig)) :=
  Finset.mem_union_left _ (Finset.mem_map_of_mem barEmb (Finset.mem_univ c))
theorem send_mem (c : Dev nD) (k : Fin 6) : sendCell c k ∈ (barCells ∪ dmaCells : Finset (GSem nD τ sig)) :=
  Finset.mem_union_right _ (Finset.mem_map_of_mem dmaEmb (Finset.mem_univ (c, ((0 : Fin 2), k))))
theorem recv_mem (c : Dev nD) (k : Fin 6) : recvCell c k ∈ (barCells ∪ dmaCells : Finset (GSem nD τ sig)) :=
  Finset.mem_union_right _ (Finset.mem_map_of_mem dmaEmb (Finset.mem_univ (c, ((1 : Fin 2), k))))

/-- The launch element: the pipeline's share and the protocol's. -/
def u₀ : U2 :=
  (initOf (Pipeline.cells (Pipeline.pin (pcfgs (F := F)) adm) cellOf_inj) (Pipeline.launchToks (Pipeline.pin (pcfgs (F := F)) adm) cellOf_inj),
    launchOf barCells dmaCells tokens)

/-- The protocol's share waits on device 0 until it is dealt. -/
def G (c : Dev nD) : sProp 𝕄 := if c = 0 then BI.own (ER (launchOf barCells dmaCells tokens)) else iprop(emp)
theorem G_all : bigSep Finset.univ (G (F := F)) = BI.own (ER (launchOf barCells dmaCells tokens)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device is dealt -/

/-- What every device may consult. -/
def shared (κ : GSem nD τ sig → ℕ) : sProp 𝕄 :=
  iprop((bigSep (barCells ∪ dmaCells) fun g => cellInv ER (rd (sent m)) (κ g) g) ∗ bigSep barCells fun g => reached ER g 0)
instance shared_persistent (κ : GSem nD τ sig → ℕ) : BI.Persistent (shared m κ) := by unfold shared; infer_instance

theorem inv_of (κ : GSem nD τ sig → ℕ) {g : GSem nD τ sig} (hg : g ∈ (barCells ∪ dmaCells : Finset (GSem nD τ sig))) :
    shared m κ ⊢ ci (sent m) κ g := by
  unfold shared; exact BI.sep_and.trans (and_elimL.trans (bigSep_elim hg))
theorem reached_of (κ : GSem nD τ sig → ℕ) (c : Dev nD) : shared m κ ⊢ (reached ER (barCell c) 0 : sProp 𝕄) := by
  unfold shared; exact BI.sep_and.trans (and_elimR.trans (bigSep_elim (Finset.mem_map_of_mem barEmb (Finset.mem_univ c))))

/-- Six persistent facts, of one. -/
theorem six_of (P : sProp 𝕄) [BI.Persistent P] (Φ : Fin 6 → sProp 𝕄) (h : ∀ k, P ⊢ Φ k) : P ⊢ six Φ := by
  iintro #H
  isplitr; · iapply (h 0) $$ H
  isplitr; · iapply (h 1) $$ H
  isplitr; · iapply (h 2) $$ H
  isplitr; · iapply (h 3) $$ H
  isplitr; · iapply (h 4) $$ H
  iapply (h 5) $$ H

def mine (c : Dev nD) : sProp 𝕄 :=
  iprop(atPos ER (barCell c) 0 ∅ 0 ∗ (six (fun k => openTok ER (sendCell c k)) ∗ six (fun k => openTok ER (recvCell c k))) ∗ Toks c)

theorem ghost_intro (κ : GSem nD τ sig → ℕ) (c : Dev nD) : iprop(shared m κ ∗ mine c) ⊢ iprop(∃ K, ghost m K c) := by
  unfold mine ghost
  iintro ⟨#H, Ha, ⟨HoS, HoR⟩, HT⟩
  iexists κ
  isplitr
  · isplitr; · iapply (inv_of m κ (bar_mem (lf c))) $$ H
    isplitr; · iapply (inv_of m κ (bar_mem (rt c))) $$ H
    isplitr; · iapply (inv_of m κ (bar_mem c)) $$ H
    isplitr; · iapply (reached_of m κ (lf c)) $$ H
    isplitr; · iapply (reached_of m κ (rt c)) $$ H
    isplitr; · iapply (six_of (shared m κ) _ fun k => inv_of m κ (send_mem c k)) $$ H
    isplitr; · iapply (six_of (shared m κ) _ fun k => inv_of m κ (recv_mem c k)) $$ H
    iapply (six_of (shared m κ) _ fun k => inv_of m κ (recv_mem (peer k c) k)) $$ H
  isplitl [HT]; · iexact HT
  isplitl [Ha]; · iexact Ha
  isplitl [HoS]; · iexact HoS
  iexact HoR

theorem seven_eq (Φ : Fin 7 → sProp 𝕄) : bigSep Finset.univ Φ = iprop(Φ 0 ∗ six (fun k => Φ k.succ)) :=
  bigSep_univ_eq_bigSepL [(0 : Fin 7), 1, 2, 3, 4, 5, 6] (by decide) (by decide) Φ

theorem tokens_eq : bigSep tokens (fun x => (dutyTok ER x.1 x.2.1 x.2.2 : sProp 𝕄)) = bigSep Finset.univ fun c : Dev nD =>
    iprop((dutyTok ER (barCell c) 0 0 ∗ six (fun k => dutyTok ER (sendCell c k) 0 0)) ∗ (dutyTok ER (barCell c) 0 1 ∗ six (fun k => dutyTok ER (recvCell c k) 0 0))) := by
  unfold tokens; rw [bigSep_map, bigSep_univ_prod]
  exact bigSep_congr fun c _ => by rw [bigSep_univ_prod, BI.bigSep_fin_two, seven_eq, seven_eq]; rfl

/-- What is held for each device's six cells, handed to the neighbour each transfer comes from. -/
theorem six_around (T : Dev nD → Fin 6 → sProp 𝕄) :
    (bigSep Finset.univ fun c : Dev nD => six (T c)) = bigSep Finset.univ fun c : Dev nD => six (fun k => T (peer k c) k) := by
  have e (k : Fin 6) : (bigSep Finset.univ fun c : Dev nD => T c k) = bigSep Finset.univ fun c : Dev nD => T (peer k c) k := by
    by_cases h : k.val % 2 = 0
    · rw [bigSep_univ_equiv rtE (fun c => T c k)]
      exact bigSep_congr fun c _ => by rw [show peer k c = rtE c from if_pos h]
    · rw [bigSep_univ_equiv lfE (fun c => T c k)]
      exact bigSep_congr fun c _ => by rw [show peer k c = lfE c from if_neg h]
  simp only [bigSep_sep']
  rw [e 0, e 1, e 2, e 3, e 4, e 5]

theorem tokens_around : bigSep tokens (fun x => (dutyTok ER x.1 x.2.1 x.2.2 : sProp 𝕄)) ⊢ bigSep Finset.univ fun c : Dev nD => (Toks c : sProp 𝕄) := by
  have split (A B C D : Dev nD → sProp 𝕄) : (bigSep Finset.univ fun c => iprop((A c ∗ B c) ∗ (C c ∗ D c)))
      = iprop((bigSep Finset.univ A ∗ bigSep Finset.univ B) ∗ (bigSep Finset.univ C ∗ bigSep Finset.univ D)) := by
    rw [bigSep_sep', bigSep_sep', bigSep_sep']
  rw [tokens_eq, split, six_around (fun c k => dutyTok ER (recvCell c k) 0 0),
    bigSep_univ_equiv lfE (fun c : Dev nD => (dutyTok ER (barCell c) 0 0 : sProp 𝕄)),
    bigSep_univ_equiv rtE (fun c : Dev nD => (dutyTok ER (barCell c) 0 1 : sProp 𝕄))]
  iintro ⟨⟨A, B⟩, C, D⟩
  iapply Smoke.bigSep_pair; isplitl [A]; · iexact A
  iapply Smoke.bigSep_pair; isplitl [C]; · iexact C
  iapply Smoke.bigSep_pair; isplitl [B]; · iexact B
  iexact D

/-! ## The launch credit -/

theorem peer_eq : ∀ (k : Fin 6) (c d : Dev nD), peer k d = c ↔ d = peer (k + 1) c := by decide

theorem due_recv (j k : Fin 6) (c : Dev nD) :
    (∑ d : Dev nD, (tallyAt (recvCell (peer j d) j) () N : CellTallies nD τ sig Unit) (recvCell c k) ()) = if j = k then N else 0 := by
  by_cases h : j = k
  · subst h
    rw [if_pos rfl, Finset.sum_congr rfl (g := fun d : Dev nD => if d = peer (j + 1) c then N else 0) fun d _ => by
      rw [tallyAt_apply]
      refine if_congr ⟨fun h => (peer_eq j c d).1 (congrArg (fun g : GSem nD τ sig => g.1.1) h.1).symm, fun h => ⟨?_, rfl⟩⟩ rfl rfl
      rw [(peer_eq j c d).2 h], Finset.sum_ite_eq' Finset.univ, if_pos (Finset.mem_univ _)]
  · rw [if_neg h]
    refine Finset.sum_eq_zero fun d _ => ?_
    rw [tallyAt_ne_cell, Finsupp.zero_apply]
    intro e
    have e' : (SemLoc.dma (rS k) : SemLoc sig) = .dma (rS j) := congrArg Prod.snd e
    exact h ((by decide : ∀ j k : Fin 6, (SemLoc.dma (rS k) : SemLoc sig) = .dma (rS j) → j = k) j k e')

theorem due_bar_recv (p : Dev nD → Dev nD) (c : Dev nD) (k : Fin 6) :
    (∑ d : Dev nD, (tallyAt (barCell (p d)) () 1 : CellTallies nD τ sig Unit) (recvCell c k) ()) = 0 :=
  Finset.sum_eq_zero fun d _ => by
    rw [tallyAt_ne_cell, Finsupp.zero_apply]
    intro e; exact absurd (congrArg Prod.snd e : (SemLoc.dma (rS k) : SemLoc sig) = .reg barrier0) (by simp)

theorem due_recv_bar (j : Fin 6) (c : Dev nD) :
    (∑ d : Dev nD, (tallyAt (recvCell (peer j d) j) () N : CellTallies nD τ sig Unit) (barCell c) ()) = 0 :=
  Finset.sum_eq_zero fun d _ => by
    rw [tallyAt_ne_cell, Finsupp.zero_apply]
    intro e; exact absurd (congrArg Prod.snd e : (SemLoc.reg barrier0 : SemLoc sig) = .dma (rS j)) (by simp)

theorem due_bar (p : Dev nD ≃ Dev nD) (c : Dev nD) :
    (∑ d : Dev nD, (tallyAt (barCell (p d)) () 1 : CellTallies nD τ sig Unit) (barCell c) ()) = 1 := by
  rw [Finset.sum_congr rfl (g := fun d : Dev nD => if d = p.symm c then 1 else 0) fun d _ => by
    rw [tallyAt_apply]
    refine if_congr ⟨fun h => (p.eq_symm_apply).2 (congrArg (fun g : GSem nD τ sig => g.1.1) h.1).symm, fun h => ⟨?_, rfl⟩⟩ rfl rfl
    rw [(p.eq_symm_apply).1 h], Finset.sum_ite_eq' Finset.univ, if_pos (Finset.mem_univ _)]

theorem due_all (g : GSem nD τ sig) : (∑ d : Dev nD, O₀ d g ()) =
    (((((((∑ d : Dev nD, (tallyAt (recvCell (peer 5 d) 5) () N : CellTallies nD τ sig Unit) g ()) + ∑ d : Dev nD, (tallyAt (recvCell (peer 4 d) 4) () N : CellTallies nD τ sig Unit) g ())
      + ∑ d : Dev nD, (tallyAt (recvCell (peer 3 d) 3) () N : CellTallies nD τ sig Unit) g ()) + ∑ d : Dev nD, (tallyAt (recvCell (peer 2 d) 2) () N : CellTallies nD τ sig Unit) g ())
      + ∑ d : Dev nD, (tallyAt (recvCell (peer 1 d) 1) () N : CellTallies nD τ sig Unit) g ()) + ∑ d : Dev nD, (tallyAt (recvCell (peer 0 d) 0) () N : CellTallies nD τ sig Unit) g ())
      + ∑ d : Dev nD, (tallyAt (barCell (rtE d)) () 1 : CellTallies nD τ sig Unit) g ()) + ∑ d : Dev nD, (tallyAt (barCell (lfE d)) () 1 : CellTallies nD τ sig Unit) g () := by
  simp only [← Finset.sum_add_distrib]
  rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, due_all, due_recv_bar, due_recv_bar, due_recv_bar, due_recv_bar, due_recv_bar, due_recv_bar,
    due_bar, due_bar]
theorem launch_recv (c : Dev nD) (k : Fin 6) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, due_all, due_recv, due_recv, due_recv, due_recv, due_recv, due_recv,
    due_bar_recv, due_bar_recv]
  fin_cases k <;> simp

def rEmb : Fin 6 ↪ SemLoc sig := ⟨fun k => .dma (rS k), by decide⟩

theorem creds (c : Dev nD) : (Pipeline.launchCred O₀ c : sProp 𝕄) ⊢ Creds c := by
  unfold Pipeline.launchCred
  rw [bigSep_univ_at _ (SemLoc.reg barrier0), launch_bar]
  refine sep_mono_right ?_
  refine (bigSep_subset (t := Finset.univ.map rEmb) fun sm h => ?_).trans ?_
  · obtain ⟨k, -, rfl⟩ := Finset.mem_map.mp h
    exact Finset.mem_erase.mpr ⟨(by decide : ∀ k, rEmb k ≠ SemLoc.reg barrier0) k, Finset.mem_univ _⟩
  rw [bigSep_map, six_eq]
  have e : (fun k : Fin 6 => (cred (tallyOn ((c : Thread nD τ), rEmb k) (launchCredit (Pipeline.owing O₀) 0 ((c : Thread nD τ), rEmb k))) : sProp 𝕄))
      = fun k => cred (tallyAt (recvCell c k) () N) := funext fun k => congrArg cred (launch_recv c k)
  exact Entails.of_eq (congrArg six e)

/-! ## The run -/

theorem unscoped_one (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

abbrev T₀ (c : Dev nD) : sProp 𝕄 := iprop(StableHlo.held (c : Thread nD τ) (Pipeline.ucRefs τ sig) (Vst m c) ∗ R m c)
abbrev Tₙ (c : Dev nD) : sProp 𝕄 := iprop(StableHlo.held (c : Thread nD τ) (Pipeline.ucRefs τ sig) (Vex m c) ∗ semVal (barCell c) 0)

/-- What of a device's launch holdings is not the protocol's. -/
def bundle (c : Dev nD) : sProp 𝕄 :=
  iprop(StableHlo.held (c : Thread nD τ) (Pipeline.ucRefs τ sig) (Vst m c) ∗ Creds c ∗ owes (c : Thread nD τ) (O₀ c) ∅ ∗ ∃ r, prngReg c r)

theorem T₀_intro (κ : GSem nD τ sig → ℕ) (c : Dev nD) : iprop(shared m κ ∗ (mine c ∗ bundle m c)) ⊢ T₀ m c := by
  unfold bundle T₀ R Tk owing
  iintro ⟨#HR, Hl, Hh, HC, HO, Hp⟩
  isplitl [Hh]; · iexact Hh
  isplitl [Hl HC]
  · isplitl [Hl]
    · iapply (ghost_intro m κ c)
      isplitr; · iexact HR
      iexact Hl
    iexact HC
  isplitl [Hp]; · iexact Hp
  iexists ∅; iexact HO

theorem hcore (c : Dev nD) : iprop(unscopedBufs c (fun b => m ((c : Thread nD τ).loc b)) ∗ unscopedSems0 c
      ∗ owes (c : Thread nD τ) (O₀ c) ∅ ∗ Pipeline.launchCred O₀ c ∗ prngReg c (ρ c) ∗ G c)
    ⊢ (iprop(bundle m c ∗ (semVal (barCell c) 0 ∗ G c)) : sProp 𝕄) := by
  rw [show unscopedBufs c (fun b => m ((c : Thread nD τ).loc b)) = StableHlo.held (c : Thread nD τ) (Pipeline.ucRefs τ sig) (Vst m c) from
    Pipeline.unscopedBufs_held c (Vst m c), unscoped_one]
  unfold bundle
  iintro ⟨Hh, Hus, HO, Hcr, Hp, HG⟩
  ihave HC := (creds (F := F) c) $$ Hcr
  isplitl [Hh HC HO Hp]
  · isplitl [Hh]; · iexact Hh
    isplitl [HC]; · iexact HC
    isplitl [HO]; · iexact HO
    iexists (ρ c); iexact Hp
  isplitl [Hus] <;> iassumption

theorem opened_eq : bigSep dmaCells (fun g => (openTok ER g : sProp 𝕄))
    = bigSep Finset.univ (fun c : Dev nD => iprop(six (fun k => openTok ER (sendCell c k)) ∗ six (fun k => openTok ER (recvCell c k)))) := by
  rw [bigSep_map, bigSep_univ_prod]
  exact bigSep_congr fun c _ => pairs_eq (fun k => (openTok ER ((c : Thread nD τ), osem k) : sProp 𝕄))

theorem dealt :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore m ρ c) $$ H
  ihave H2 := Smoke.bigSep_unpair $$ H'; icases H2 with ⟨HB, H3⟩
  ihave H4 := Smoke.bigSep_unpair $$ H3; icases H4 with ⟨Hv, HG⟩
  ihave Hu := (show bigSep Finset.univ (G (F := F)) ⊢ BI.own (ER (launchOf barCells dmaCells tokens)) from Entails.of_eq G_all) $$ HG
  imod (Rounds.fund_launch ER (rd (sent m)) cells_apart (fun g _ h => h) tokens) $$ [Hv Hu] with ⟨%κ, -, #Hinv, #Hr, Hat, Hopen, Htok⟩
  · isplitl [Hv]
    · iapply hv $$ Hv
    · iexact Hu
  imodintro
  iapply (bigSep_with_persistent (R := shared m κ) (Φ := fun c => iprop(mine c ∗ bundle m c)) fun c _ => T₀_intro m κ c)
  isplitr
  · unfold shared
    isplitr; · iexact Hinv
    iexact Hr
  iapply Smoke.bigSep_pair
  isplitr [HB]
  · unfold mine
    iapply Smoke.bigSep_pair; isplitl [Hat]; · iapply hat $$ Hat
    iapply Smoke.bigSep_pair; isplitl [Hopen]; · iapply (Entails.of_eq (opened_eq (F := F))) $$ Hopen
    iapply (tokens_around (F := F)) $$ Htok
  · iexact HB

set_option backward.isDefEq.respectTransparency.types false in
/-- From any memory, with every counter at zero, every weakly fair run of the program on the four devices ends, with each device's
    buffers at what the call leaves in them and every counter of the machine at zero again. -/
theorem run_all : θ_run defs (onTc (τ := τ) (main (F := F))) ⟨m, fun _ => 0, ρ⟩
    (fun r => (∀ c : Dev nD, ∀ b ∈ Pipeline.ucRefs τ sig, r.2.mem (c, b) = Vex m c b) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => .rfl, fun c => reg_pre m c, fun c => reg_post m c⟩)
    (hinit := dealt m ρ)
    (QY := fun c s => (∀ b ∈ Pipeline.ucRefs τ sig, s.mem (c, b) = Vex m c b) ∧ s.sem (barCell c) = 0)
    (hfin := fun c s' => by
      unfold Tₙ StableHlo.held
      iintro ⟨⟨Hh, Hb⟩, HSI⟩
      icombine HSI Hb gives %hb
      ihave H := (pointsTo_read_all (Pipeline.ucRefs τ sig) (fun b => ((c : Thread nD τ).1, b)) (Vex m c) s') $$ [Hh HSI]
      · isplitl [Hh]; · iexact Hh
        iexact HSI
      icases H with ⟨%hm, HSI⟩
      imodintro
      isplitr
      · ipureintro
        exact ⟨hm, by simpa using hb⟩
      iexact HSI)
    (hQ := fun s h hs => ⟨fun c => (h c).1,
      sem_eq_zero hs fun c sm hsm => by
        obtain rfl := unscoped_eq sm hsm
        exact (h c).2⟩)

/-! ## What the call leaves in the arguments and in the result -/

theorem kept_in (c : Dev nD) (w : Fin cfg0.W) (h : (cfg0.win w).isOut = false) :
    Vex m c (Proc.devRef .tc (Pipeline.arrRef spec0 w)) = V m c (Pipeline.arrRef spec0 w) :=
  (Pipeline.afterRegion_arr (dat m c) (Ven m c) launch0.win.arr_inj w).trans ((dat m c).arrAt_in w h _)
theorem kept_other (c : Dev nD) (b : Ref sig .tc) (h : ∀ w, b ≠ Pipeline.arrRef spec0 w) : Vex m c (Proc.devRef .tc b) = V m c b :=
  (Pipeline.afterRegion_of_not_arr (dat m c) (Ven m c) h).trans (Ven_eq m c b).symm

theorem end_arg0 (c : Dev nD) : Vex m c main_arg0 = m ((c : Thread nD τ).loc main_arg0) := (kept_in m c 0 rfl).trans (V_main_arg0 m c)
theorem end_arg1 (c : Dev nD) : Vex m c main_arg1 = m ((c : Thread nD τ).loc main_arg1) :=
  (kept_other m c main_arg1 (by decide)).trans (V_main_arg1 m c)
theorem end_arg2 (c : Dev nD) : Vex m c main_arg2 = m ((c : Thread nD τ).loc main_arg2) :=
  (kept_other m c main_arg2 (by decide)).trans (V_main_arg2 m c)
theorem end_arg3 (c : Dev nD) : Vex m c main_arg3 = m ((c : Thread nD τ).loc main_arg3) := (kept_in m c 2 rfl).trans (V_main_arg3 m c)
theorem end_arg4 (c : Dev nD) : Vex m c main_arg4 = m ((c : Thread nD τ).loc main_arg4) := (kept_in m c 3 rfl).trans (V_main_arg4 m c)
theorem end_result (c : Dev nD) : Vex m c main_v17 = left m c :=
  (Pipeline.afterRegion_arr (dat m c) (Ven m c) launch0.win.arr_inj 4).trans
    ((dat m c).arrAt_eq_of_after_last 4 t0_0 (by decide +kernel) (left m c) fun j => by
      show left m c _ = left m c _
      congr 1)

/-- The run, read at the program's arguments and result. -/
theorem run_main : θ_run defs (onTc (τ := τ) (main (F := F))) ⟨m, fun _ => 0, ρ⟩
    (fun r => (∀ c : Dev nD, r.2.mem ((c.tc : Thread nD τ).loc main_v17) = left m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c =>
    ⟨(h.1 c _ (Pipeline.devRef_mem_ucRefs (b := main_v17) rfl)).trans (end_result m c),
      (h.1 c _ (Pipeline.devRef_mem_ucRefs (b := main_arg0) rfl)).trans (end_arg0 m c),
      (h.1 c _ (Pipeline.devRef_mem_ucRefs (b := main_arg1) rfl)).trans (end_arg1 m c),
      (h.1 c _ (Pipeline.devRef_mem_ucRefs (b := main_arg2) rfl)).trans (end_arg2 m c),
      (h.1 c _ (Pipeline.devRef_mem_ucRefs (b := main_arg3) rfl)).trans (end_arg3 m c),
      (h.1 c _ (Pipeline.devRef_mem_ucRefs (b := main_arg4) rfl)).trans (end_arg4 m c)⟩, h.2⟩) (run_all m ρ)

end Cert.KernelIdeal.Exchange
end
-- ==== Proof.Frames.lean ====
/- The three frames: each program ends, leaves its arguments as they were, and every counter of the machine at zero. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Frames

open Idealize.ShloMosaic Idealize.SL.Sem

attribute [local instance] Cert.Kernel.Gen.facts Cert.KernelIdeal.Gen.facts Cert.ReferenceIdeal.Gen.facts

/-- The frame of the kernel's run over any float values, in the words of the exact one. -/
theorem kernel_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩) (Cert.KernelIdeal.Exchange.run_main (F := F) m ρ)

/-- The kernel read over exact values. -/
theorem kernel_ideal : Cert.quiescent_KernelIdeal := fun m ρ _ => kernel_any (F := Ideal) m ρ

/-- The two printings of the kernel have the same bodies. -/
theorem bodies {F : FTy → Type} [FloatOps F] : Cert.Kernel.defs₀ (F := F) = Cert.KernelIdeal.defs₀ := by
  unfold Cert.Kernel.defs₀ Cert.KernelIdeal.defs₀
  refine congrArg Defs.onTc (funext fun k => ?_)
  match k with
  | 0 => rfl
theorem tables {F : FTy → Type} [FloatOps F] : Cert.Kernel.defs (F := F) = Cert.KernelIdeal.defs :=
  congrArg (Pipeline.defs Cert.KernelIdeal.pcfgs) bodies

/-- The kernel over the machine's own floats: the same run. -/
theorem kernel : Cert.quiescent_Kernel := fun m ρ _ => by
  rw [tables]
  exact kernel_any (F := Bits) m ρ

/-- The reference, which has no semaphore at all. -/
theorem reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- The frames that the value claim's precondition brings along are among these. -/
theorem kernel_ideal_finite [Cert.Pre_finite_top_score_KernelIdeal.Facts] : Cert.quiescent_KernelIdeal_pre_finite_top_score_KernelIdeal :=
  fun m ρ _ => kernel_ideal m ρ trivial
theorem reference_finite [Cert.Pre_finite_top_score_ReferenceIdeal.Facts] : Cert.quiescent_ReferenceIdeal_pre_finite_top_score_ReferenceIdeal :=
  fun m ρ _ => reference m ρ trivial

end Cert.Frames
end
-- ==== Proof.Mix.lean ====
/- The numbers that both programs compute, over the reals: a row of router scores, its softmax, and the weight that an expert
   gets. Nothing here mentions a program. -/
module

public import Idealize.ShloMosaic.Lib.Pointwise

@[expose] public section

noncomputable section

namespace Cert.Mix

open Idealize.ShloMosaic
open scoped BigOperators

/-- The largest of a row's eight scores. -/
def top (s : Fin 8 → EReal) : EReal := Finset.univ.fold max ⊥ s

/-- The softmax of a row of eight scores, at one of them. -/
def soft (s : Fin 8 → EReal) (e : Fin 8) : EReal :=
  Ideal.div (Ideal.exp (s e - top s)) (∑ q : Fin 8, Ideal.exp (s q - top s))

/-- The score of a token for an expert. -/
def score (x : Fin 256 → EReal) (w : Fin 256 → Fin 8 → EReal) (e : Fin 8) : EReal := ∑ k : Fin 256, x k * w k e

/-- One expert's product with a token, at one output lane. -/
def lin (x : Fin 256 → EReal) (w : Fin 256 → Fin 512 → EReal) (l : Fin 512) : EReal := ∑ k : Fin 256, x k * w k l

/-- What the layer returns for a token that was routed to the expert named by the word `a`: the shared product, and, where
    `a` names one of the eight experts, that expert's product weighted by the softmax of the scores. -/
def layer (x : Fin 256 → EReal) (wr : Fin 256 → Fin 8 → EReal) (a : BitVec 32) (we : Fin 8 → Fin 256 → Fin 512 → EReal)
    (ws : Fin 256 → Fin 512 → EReal) (l : Fin 512) : EReal :=
  lin x ws l + if h : a.toNat < 8 then soft (score x wr) ⟨a.toNat, h⟩ * lin x (we ⟨a.toNat, h⟩) l else 0

/-! ## The softmax where the largest score is finite -/

/-- No score is above the largest. -/
theorem le_top (s : Fin 8 → EReal) (e : Fin 8) : s e ≤ top s :=
  (Finset.fold_max_le (top s)).mp le_rfl |>.2 e (Finset.mem_univ e)

/-- Some score is the largest. -/
theorem top_mem (s : Fin 8 → EReal) : ∃ e, top s = s e := by
  obtain ⟨e, -, he⟩ := Finset.exists_max_image Finset.univ s ⟨0, Finset.mem_univ _⟩
  exact ⟨e, le_antisymm ((Finset.fold_max_le (s e)).mpr ⟨bot_le, fun q hq => he q hq⟩) (le_top s e)⟩

/-- Where the largest score is finite the softmax is a real number that is not negative: every exponential is a real that is
    not negative (0 at a score of -∞), that of the largest is positive, and so is their sum. -/
theorem soft_real (s : Fin 8 → EReal) (hs : top s ≠ ⊤ ∧ top s ≠ ⊥) (e : Fin 8) : ∃ p : ℝ, 0 ≤ p ∧ soft s e = (p : EReal) := by
  obtain ⟨b, hb⟩ := top_mem s
  have hx : ∀ q, ∃ y : ℝ, 0 ≤ y ∧ (s q ≠ ⊥ → 0 < y) ∧ Ideal.exp (s q - top s) = (y : EReal) := fun q => by
    have hq : s q ≠ ⊤ := fun g => hs.1 (top_le_iff.mp (g ▸ le_top s q))
    by_cases h : s q = ⊥
    · exact ⟨0, le_rfl, fun g => absurd h g, by rw [h, EReal.bot_sub]; rfl⟩
    · refine ⟨Real.exp ((s q).toReal - (top s).toReal), (Real.exp_pos _).le, fun _ => Real.exp_pos _, ?_⟩
      conv_lhs => rw [← EReal.coe_toReal hq h, ← EReal.coe_toReal hs.1 hs.2, ← EReal.coe_sub]
      rfl
  choose y h0 hpos hy using hx
  have hsum : (∑ q : Fin 8, Ideal.exp (s q - top s)) = ((∑ q : Fin 8, y q : ℝ) : EReal) := by
    rw [Finset.sum_congr rfl fun q _ => hy q]
    simp only [Fin.sum_univ_eight, EReal.coe_add]
  have hp : 0 < ∑ q : Fin 8, y q :=
    Finset.sum_pos' (fun q _ => h0 q) ⟨b, Finset.mem_univ _, hpos b (hb ▸ hs.2)⟩
  refine ⟨y e * (∑ q : Fin 8, y q)⁻¹, mul_nonneg (h0 e) (inv_nonneg.mpr hp.le), ?_⟩
  unfold soft Ideal.div
  rw [hsum, if_neg (by rw [EReal.coe_eq_zero]; exact hp.ne'), hy, ← EReal.coe_inv, ← EReal.coe_mul]

/-- Such a softmax distributes over a sum, whatever the summands. -/
theorem soft_mul_sum (s : Fin 8 → EReal) (hs : top s ≠ ⊤ ∧ top s ≠ ⊥) (e : Fin 8) {ι : Type} (A : Finset ι) (f : ι → EReal) :
    soft s e * ∑ k ∈ A, f k = ∑ k ∈ A, soft s e * f k := by
  classical
  obtain ⟨p, hp, h⟩ := soft_real s hs e
  rw [h]
  induction A using Finset.induction_on with
  | empty => simp
  | insert a A ha ih =>
    rw [Finset.sum_insert ha, Finset.sum_insert ha, ← ih]
    exact EReal.left_distrib_of_nonneg_of_ne_top (EReal.coe_nonneg.mpr hp) (EReal.coe_ne_top p) _ _

end Cert.Mix
-- ==== Proof.Gate.lean ====
/- What the call finds in its four operands: a device's tokens, the gates that the host code before the call computes, the
   device's two experts and the shared weights. -/
module

public import proofs.«01_k».proof.Proof.Region
public import proofs.«01_k».proof.Proof.Mix
public import Idealize.ShloMosaic.Lib.StableHlo.Run

@[expose] public section

noncomputable section

namespace Cert.KernelIdeal.Exchange

open Idealize.ShloMosaic Idealize.ShloMosaic.TcCoe Idealize.ShloMosaic.StableHlo
open Cert.KernelIdeal Cert.KernelIdeal.Gen
open scoped BigOperators

section Any

variable {F : FTy → Type} [FloatOps F]

/-- The scores of a device's tokens. -/
def scoresOf (x : S512x256.Idx → Elt F .f32) (w : S256x8.Idx → Elt F .f32) : S512x8.Idx → Elt F .f32 :=
  Host.dotGeneral dot_S512x256_S256x8_S512x8_1_0_0_1_n_n none x w

/-- The exponentials of the scores less their row's largest. -/
def expsOf (s : S512x8.Idx → Elt F .f32) : S512x8.Idx → Elt F .f32 :=
  Host.exp (subf s (broadcastInDim S512x8 ![0, 1] bcast_S512x1_S512x8_0_1 (broadcastInDim S512x1 ![0] bcast_S512_S512x1_0
    (maximumf (broadcastInDim S512 ![] bcast_S_S512 (constant S_ .f32 0xFF800000#32))
      (Host.reduce FloatOps.maximumf s (constant S_ .f32 0xFF800000#32) reducesTo_S512x8_S512_d1 h_S_)))))

/-- The gates: a token's softmax at the expert it was routed to, zero at the others. -/
def gatesOf (x : S512x256.Idx → Elt F .f32) (w : S256x8.Idx → Elt F .f32) (a : S512x1.Idx → Elt F .i32) : S512x8.Idx → Elt F .f32 :=
  select (cmpi .eq (iotaInDim S512x8 32 1) (broadcastInDim S512x8 ![0, 1] bcast_S512x1_S512x8_0_1 a))
    (Host.divf (expsOf (scoresOf x w)) (broadcastInDim S512x8 ![0, 1] bcast_S512x1_S512x8_0_1
      (broadcastInDim S512x1 ![0] bcast_S512_S512x1_0
        (Host.reduceAdd (expsOf (scoresOf x w)) (constant S_ .f32 0x00000000#32) reducesTo_S512x8_S512_d1 h_S_))))
    (broadcastInDim S512x8 ![] bcast_S_S512x8 (constant S_ .f32 0x00000000#32))

variable (m : (ℓ : Loc nD τ sig) → Buf (Elt F) ℓ)

/-- The host code leaves the gates in the call's second operand. -/
theorem V_gates (c : Dev nD) : V m c main_v16
    = gatesOf (m ((c : Thread nD τ).loc main_arg0)) (m ((c : Thread nD τ).loc main_arg1)) (m ((c : Thread nD τ).loc main_arg2)) := by
  rw [Ven_eq]
  unfold Ven
  after_results_simp
  rfl

theorem x0_eq (c : Dev nD) : x0 m c = m ((c : Thread nD τ).loc main_arg0) := by
  rw [← V_main_arg0 m c];
  have h : win0_0.index t0_0 = ![0, 0] := by decide +kernel
  funext i
  unfold x0 iblk
  blk_ext [h]
theorem x1_eq (c : Dev nD) : x1 m c
    = gatesOf (m ((c : Thread nD τ).loc main_arg0)) (m ((c : Thread nD τ).loc main_arg1)) (m ((c : Thread nD τ).loc main_arg2)) := by
  rw [← V_gates m c];
  have h : win0_1.index t0_0 = ![0, 0] := by decide +kernel
  funext i
  unfold x1 iblk
  blk_ext [h]
theorem x2_eq (c : Dev nD) : x2 m c = m ((c : Thread nD τ).loc main_arg3) := by
  rw [← V_main_arg3 m c];
  have h : win0_2.index t0_0 = ![0, 0, 0] := by decide +kernel
  funext i
  unfold x2 iblk
  blk_ext [h]
theorem x3_eq (c : Dev nD) : x3 m c = m ((c : Thread nD τ).loc main_arg4) := by
  rw [← V_main_arg4 m c];
  have h : win0_3.index t0_0 = ![0, 0] := by decide +kernel
  funext i
  unfold x3 iblk
  blk_ext [h]

end Any

/-- A choice made by the equality of two words. -/
theorem select_eq_word (u v : BitVec 32) (y z : EReal) : Scalar.select (IntOp.cmpi .eq u v) y z = if u = v then y else z := by
  unfold Scalar.select IntOp.cmpi
  by_cases h : u = v
  · simp [h]
  · have hb : (u == v) = false := beq_eq_false_iff_ne.mpr h
    simp [h, hb]

theorem neg_inf : Ideal.ofBits .f32 0xFF800000#32 = ⊥ := by simp [Ideal.ofBits, Ideal.ieee]

/-- A gate over the reals. -/
theorem gates_apply (x : S512x256.Idx → EReal) (w : S256x8.Idx → EReal) (a : S512x1.Idx → BitVec 32) (r : Fin 512) (q : Fin 8) :
    gatesOf (F := Ideal) x w a (ix2 r q)
      = if BitVec.ofNat 32 q.val = a (ix2 r 0) then Mix.soft (Mix.score (fun k => x (ix2 r k)) fun k e => w (ix2 k e)) q else 0 := by
  pointwise [gatesOf, expsOf, scoresOf]
  rw [select_eq_word, neg_inf]
  simp only [bot_sup_eq]
  rfl

end Cert.KernelIdeal.Exchange
-- ==== Proof.Terms.lean ====
/- What a device's output block holds, over the reals: the shared product and eight contributions, one for each expert. -/
module

public import proofs.«01_k».proof.Proof.Gate

@[expose] public section

noncomputable section

namespace Cert.KernelIdeal.Exchange

open Idealize.ShloMosaic Cert.KernelIdeal Cert.KernelIdeal.Gen
open scoped BigOperators

/-- The gate that a row of gates has at the expert that a word names, summed over the lanes as the body does it. -/
def gateAt (g : S512x8.Idx → EReal) (r : Fin 512) (w : BitVec 32) : EReal :=
  ∑ q : Fin 8, Scalar.select (IntOp.cmpi .eq (BitVec.ofNat 32 q.val) w) (g (ix2 r q)) 0

theorem gateAt_eq (g : S512x8.Idx → EReal) (r : Fin 512) (e : Fin 8) : gateAt g r (BitVec.ofNat 32 e.val) = g (ix2 r e) := by
  unfold gateAt
  rw [Finset.sum_eq_single e]
  · rw [select_eq_word, if_pos rfl]
  · intro q _ hq
    rw [select_eq_word, if_neg]
    revert hq
    revert q e
    decide
  · intro h
    exact absurd (Finset.mem_univ e) h

/-- A gated product: the gate scales the token before the product. -/
def term (x : S512x256.Idx → EReal) (G : EReal) (r l : Fin 512) (f : Fin 256 → EReal) : EReal := ∑ k : Fin 256, G * x (ix2 r k) * f k

theorem pay4_apply (v : BitVec 32) (x : S512x256.Idx → EReal) (g : S512x8.Idx → EReal) (s : S256x512.Idx → EReal) (f : S1x256x512.Idx → EReal) (r l : Fin 512) :
    k0_pay4 (F := Ideal) v x g s f (ix2 r l) = ∑ k : Fin 256, x (ix2 r k) * s (ix2 k l)
      + term x (gateAt g r (Scalar.addi (Scalar.muli v 2#32) 0#32)) r l fun k => f (ix3 0 k l) := by
  pointwise [k0_pay4, k0_pay2, k0_pay3]
  rfl

theorem pay5_apply (x : S512x256.Idx → EReal) (g : S512x8.Idx → EReal) (s : S512x512.Idx → EReal) (w : BitVec 32) (f : S1x256x512.Idx → EReal) (r l : Fin 512) :
    k0_pay5 (F := Ideal) x g lanes s w f (ix2 r l) = s (ix2 r l) + term x (gateAt g r w) r l fun k => f (ix3 0 k l) := by
  pointwise [k0_pay5, lanes]
  rfl

theorem pay8_apply (v : BitVec 32) (x : S512x256.Idx → EReal) (g : S512x8.Idx → EReal) (s : S512x512.Idx → EReal) (a : S256x512.Idx → EReal) (d : S512.Idx → EReal) (sc : EReal) (f : S1x256x512.Idx → EReal) (r l : Fin 512) :
    k0_pay8 (F := Ideal) v x g lanes s a d sc f (ix2 r l) = s (ix2 r l) + term x (d (ix1 r) * sc) r l (fun k => a (ix2 k l))
      + term x (gateAt g r (Scalar.addi (Scalar.muli v 2#32) 1#32) * Ideal.ofBits .f32 0x3D000000#32) r l fun k => f (ix3 0 k l) := by
  pointwise [k0_pay8, lanes]
  rfl

theorem pay7_apply (v : BitVec 32) (g : S512x8.Idx → EReal) (r : Fin 512) :
    k0_pay7 (F := Ideal) v g lanes (ix1 r) = gateAt g r (Scalar.addi (Scalar.muli v 2#32) 0#32) := by
  pointwise [k0_pay7, lanes]
  rfl

theorem pay9_apply (x : S512x256.Idx → EReal) (g : S512x8.Idx → EReal) (s : S512x512.Idx → EReal) (w : BitVec 32) (f : S1x256x512.Idx → EReal) (r l : Fin 512) :
    k0_pay9 (F := Ideal) x g lanes s w f (ix2 r l)
      = s (ix2 r l) + term x (gateAt g r w * Ideal.ofBits .f32 0x3D000000#32) r l fun k => f (ix3 0 k l) := by
  pointwise [k0_pay9, lanes]
  rfl

theorem pay11_apply (v : BitVec 32) (g : S512x8.Idx → EReal) (r : Fin 512) :
    k0_pay11 (F := Ideal) v g lanes (ix1 r) = gateAt g r (Scalar.addi (Scalar.muli v 2#32) 0#32) := by
  pointwise [k0_pay11, lanes]
  rfl

theorem pay12_apply (r : Fin 512) : k0_pay12 (F := Ideal) (ix1 r) = Ideal.ofBits .f32 0x3D000000#32 := by
  pointwise [k0_pay12]

theorem pay13_apply (v : BitVec 32) (x : S512x256.Idx → EReal) (g : S512x8.Idx → EReal) (s : S512x512.Idx → EReal) (a : S256x512.Idx → EReal) (d e : S512.Idx → EReal) (f : S1x256x512.Idx → EReal) (r l : Fin 512) :
    k0_pay13 (F := Ideal) v x g lanes s a d e f (ix2 r l) = s (ix2 r l) + term x (d (ix1 r) * e (ix1 r)) r l (fun k => a (ix2 k l))
      + term x (gateAt g r (Scalar.addi (Scalar.muli (across v) 2#32) 0#32) * Ideal.ofBits .f32 0x3D000000#32) r l fun k => f (ix3 0 k l) := by
  pointwise [k0_pay13, lanes]
  rfl

theorem pay14_apply (v : BitVec 32) (x : S512x256.Idx → EReal) (g : S512x8.Idx → EReal) (s : S512x512.Idx → EReal) (f : S1x256x512.Idx → EReal) (r l : Fin 512) :
    k0_pay14 (F := Ideal) x g lanes v s f (ix2 r l) = s (ix2 r l)
      + term x (gateAt g r (Scalar.addi (Scalar.muli v 2#32) 1#32) * Ideal.ofBits .f32 0x3D000000#32) r l fun k => f (ix3 0 k l) := by
  pointwise [k0_pay14, lanes]
  rfl

theorem pay6_apply (f : S1x256x512.Idx → EReal) (k : Fin 256) (l : Fin 512) : k0_pay6 (F := Ideal) f (ix2 k l) = f (ix3 0 k l) := by
  pointwise [k0_pay6]

theorem pay10_apply (f : S1x256x512.Idx → EReal) (k : Fin 256) (l : Fin 512) : k0_pay10 (F := Ideal) f (ix2 k l) = f (ix3 0 k l) := by
  pointwise [k0_pay10]

/-- The tokens reach the products as they are. -/
theorem pay2_apply (x : S512x256.Idx → EReal) (r : Fin 512) (k : Fin 256) : k0_pay2 (F := Ideal) x (ix2 r k) = x (ix2 r k) := by
  pointwise [k0_pay2]

/-- So do the gates. -/
theorem pay3_apply (g : S512x8.Idx → EReal) (r : Fin 512) (q : Fin 8) : k0_pay3 (F := Ideal) g (ix2 r q) = g (ix2 r q) := by
  pointwise [k0_pay3]

/-- What a device sends is its experts times 32. -/
theorem pay1_apply (w : S2x256x512.Idx → EReal) (e : Fin 2) (k : Fin 256) (l : Fin 512) :
    k0_pay1 (F := Ideal) w (ix3 e k l) = w (ix3 e k l) * Ideal.ofBits .f32 0x42000000#32 := by
  pointwise [k0_pay1]

/-! ## The words and the experts they name -/

/-- The expert that device `d` holds in its slot `b`. -/
def ex (d : Dev nD) (b : Fin 2) : Fin 8 := ⟨2 * d.val + b.val, by have h : d.val < 4 := d.isLt; have := b.isLt; omega⟩

theorem own0 : ∀ c : Dev nD, Scalar.addi (Scalar.muli (w2 c) 2#32) 0#32 = BitVec.ofNat 32 (ex c 0).val := by decide +kernel
theorem own1 : ∀ c : Dev nD, slot (w2 c) = BitVec.ofNat 32 (ex c 1).val := by decide +kernel
theorem left0 : ∀ c : Dev nD, Scalar.addi (Scalar.muli (w5 c) 2#32) 0#32 = BitVec.ofNat 32 (ex (lf c) 0).val := by decide +kernel
theorem left1 : ∀ c : Dev nD, slot (w5 c) = BitVec.ofNat 32 (ex (lf c) 1).val := by decide +kernel
theorem right0 : ∀ c : Dev nD, Scalar.addi (Scalar.muli (w7 c) 2#32) 0#32 = BitVec.ofNat 32 (ex (rt c) 0).val := by decide +kernel
theorem right1 : ∀ c : Dev nD, Scalar.addi (Scalar.muli (w7 c) 2#32) 1#32 = BitVec.ofNat 32 (ex (rt c) 1).val := by decide +kernel
theorem over0 : ∀ c : Dev nD, Scalar.addi (Scalar.muli (across (w2 c)) 2#32) 0#32 = BitVec.ofNat 32 (ex (ac c) 0).val := by decide +kernel
theorem over1 : ∀ c : Dev nD, Scalar.addi (Scalar.muli (across (w2 c)) 2#32) 1#32 = BitVec.ofNat 32 (ex (ac c) 1).val := by decide +kernel

/-- The first and the second of a buffer's two experts. -/
theorem cut0_apply {e : EltTy} (f : S2x256x512.Idx → Elt Ideal e) (k : Fin 256) (l : Fin 512) : cut R0 f (ix3 0 k l) = f (ix3 0 k l) := by
  unfold cut
  blk_ext []
theorem cut1_apply {e : EltTy} (f : S2x256x512.Idx → Elt Ideal e) (k : Fin 256) (l : Fin 512) : cut R1 f (ix3 0 k l) = f (ix3 1 k l) := by
  unfold cut
  blk_ext []

/-! ## The scale -/

theorem scale_one : Ideal.ofBits .f32 0x3D000000#32 * Ideal.ofBits .f32 0x42000000#32 = 1 := by
  have h1 : Ideal.ofBits .f32 0x42000000#32 = ((32 : ℝ) : EReal) := by simp [Ideal.ofBits, Ideal.ieee, -EReal.coe_mul]; norm_num
  have h2 : Ideal.ofBits .f32 0x3D000000#32 = ((1 / 32 : ℝ) : EReal) := by simp [Ideal.ofBits, Ideal.ieee, -EReal.coe_mul]; norm_num
  rw [h1, h2, ← EReal.coe_mul]
  norm_num

/-- A gate divided by 32 against weights times 32 is the gate against the weights. -/
theorem term_scaled (x : S512x256.Idx → EReal) (G : EReal) (r l : Fin 512) (f : Fin 256 → EReal) :
    (term x (G * Ideal.ofBits .f32 0x3D000000#32) r l fun k => f k * Ideal.ofBits .f32 0x42000000#32) = term x G r l f := by
  refine Finset.sum_congr rfl fun k _ => ?_
  beta_reduce
  calc _ = G * x (ix2 r k) * f k * (Ideal.ofBits .f32 0x3D000000#32 * Ideal.ofBits .f32 0x42000000#32) := by ac_rfl
    _ = _ := by rw [scale_one, mul_one]

theorem term_tokens (x : S512x256.Idx → EReal) (G : EReal) (r l : Fin 512) (f : Fin 256 → EReal) :
    term (k0_pay2 (F := Ideal) x) G r l f = term x G r l f :=
  Finset.sum_congr rfl fun k _ => by rw [pay2_apply]

/-- The contributions of the two experts that a device holds, and of two that it received. -/
theorem own_first (x : S512x256.Idx → EReal) (G : EReal) (r l : Fin 512) (w : S2x256x512.Idx → EReal) :
    (term x G r l fun k => cut (F := Ideal) (e := .f32) R0 w (ix3 0 k l)) = term x G r l fun k => w (ix3 0 k l) :=
  Finset.sum_congr rfl fun k _ => congrArg (_ * ·) (cut0_apply (e := .f32) w k l)
theorem own_second (x : S512x256.Idx → EReal) (G : EReal) (r l : Fin 512) (w : S2x256x512.Idx → EReal) :
    (term x G r l fun k => cut (F := Ideal) (e := .f32) R1 w (ix3 0 k l)) = term x G r l fun k => w (ix3 1 k l) :=
  Finset.sum_congr rfl fun k _ => congrArg (_ * ·) (cut1_apply (e := .f32) w k l)
theorem got_first (x : S512x256.Idx → EReal) (G : EReal) (r l : Fin 512) (w : S2x256x512.Idx → EReal) :
    (term x (G * Ideal.ofBits .f32 0x3D000000#32) r l fun k => cut (F := Ideal) (e := .fp8e4m3) R0 (k0_pay1 (F := Ideal) w) (ix3 0 k l))
      = term x G r l fun k => w (ix3 0 k l) :=
  (Finset.sum_congr rfl fun k _ => congrArg (_ * ·) ((cut0_apply (e := .fp8e4m3) (k0_pay1 (F := Ideal) w) k l).trans (pay1_apply w 0 k l))).trans
    (term_scaled x G r l fun k => w (ix3 0 k l))
theorem got_second (x : S512x256.Idx → EReal) (G : EReal) (r l : Fin 512) (w : S2x256x512.Idx → EReal) :
    (term x (G * Ideal.ofBits .f32 0x3D000000#32) r l fun k => cut (F := Ideal) (e := .fp8e4m3) R1 (k0_pay1 (F := Ideal) w) (ix3 0 k l))
      = term x G r l fun k => w (ix3 1 k l) :=
  (Finset.sum_congr rfl fun k _ => congrArg (_ * ·) ((cut1_apply (e := .fp8e4m3) (k0_pay1 (F := Ideal) w) k l).trans (pay1_apply w 1 k l))).trans
    (term_scaled x G r l fun k => w (ix3 1 k l))

/-- A device's output block: the shared product, then the contribution of every device's two experts, in the order in which
    the body adds them. -/
theorem outOf_apply (c : Dev nD) (x : S512x256.Idx → EReal) (g : S512x8.Idx → EReal) (ws : S256x512.Idx → EReal)
    (W : Dev nD → S2x256x512.Idx → EReal) (r l : Fin 512) :
    outOf (F := Ideal) c x g (W c) ws (k0_pay1 (F := Ideal) (W (lf c))) (k0_pay1 (F := Ideal) (W (rt c))) (k0_pay1 (F := Ideal) (W (ac c))) (ix2 r l)
      = ∑ k : Fin 256, x (ix2 r k) * ws (ix2 k l)
        + term x (g (ix2 r (ex c 0))) r l (fun k => W c (ix3 0 k l))
        + term x (g (ix2 r (ex c 1))) r l (fun k => W c (ix3 1 k l))
        + term x (g (ix2 r (ex (lf c) 0))) r l (fun k => W (lf c) (ix3 0 k l))
        + term x (g (ix2 r (ex (rt c) 1))) r l (fun k => W (rt c) (ix3 1 k l))
        + term x (g (ix2 r (ex (lf c) 1))) r l (fun k => W (lf c) (ix3 1 k l))
        + term x (g (ix2 r (ex (rt c) 0))) r l (fun k => W (rt c) (ix3 0 k l))
        + term x (g (ix2 r (ex (ac c) 0))) r l (fun k => W (ac c) (ix3 0 k l))
        + term x (g (ix2 r (ex (ac c) 1))) r l (fun k => W (ac c) (ix3 1 k l)) := by
  unfold outOf
  simp only [pay14_apply, pay13_apply, pay9_apply, pay8_apply, pay5_apply, pay4_apply, pay12_apply, pay11_apply, pay7_apply,
    pay6_apply, pay10_apply, own0, own1, left0, left1, right0, right1, over0, over1, gateAt_eq, pay3_apply, term_tokens]
  rw [show (Scalar.ofBits .f32 0x3D000000#32 : Ideal .f32) = Ideal.ofBits .f32 0x3D000000#32 from rfl]
  exact congrArg₂ HAdd.hAdd (congrArg₂ HAdd.hAdd (congrArg₂ HAdd.hAdd (congrArg₂ HAdd.hAdd (congrArg₂ HAdd.hAdd (congrArg₂ HAdd.hAdd
    (congrArg₂ HAdd.hAdd (congrArg₂ HAdd.hAdd rfl (own_first x _ r l _)) (own_second x _ r l _)) (got_first x _ r l _)) (got_second x _ r l _))
    (got_second x _ r l _)) (got_first x _ r l _)) (got_first x _ r l _)) (got_second x _ r l _)

end Cert.KernelIdeal.Exchange
-- ==== Proof.Equation.lean ====
/- The kernel's result and the reference's are the same layer: on every device, at every token and lane, the eight gated
   products add up to the one product of the token's own expert. -/
module

public import proofs.«01_k».proof.Proof.Terms
public import proofs.«01_k».proof.Pre_finite_top_score_KernelIdeal

@[expose] public section

noncomputable section

namespace Cert.KernelIdeal.Exchange

open Idealize.ShloMosaic Idealize.ShloMosaic.TcCoe Cert.KernelIdeal Cert.KernelIdeal.Gen
open scoped BigOperators

/-- The device that holds an expert, and the slot it has there. -/
def home (e : Fin 8) : Dev nD := ⟨e.val / 2, by have := e.isLt; show e.val / 2 < 4; omega⟩
def seat (e : Fin 8) : Fin 2 := ⟨e.val % 2, by omega⟩

theorem home_ex : ∀ (d : Dev nD) (b : Fin 2), home (ex d b) = d := by decide
theorem seat_ex : ∀ (d : Dev nD) (b : Fin 2), seat (ex d b) = b := by decide

/-- The eight contributions, in whatever order a device adds them, are one sum over the experts. -/
theorem any_order (T : Fin 8 → EReal) (z : EReal) : ∀ c : Dev nD,
    z + T (ex c 0) + T (ex c 1) + T (ex (lf c) 0) + T (ex (rt c) 1) + T (ex (lf c) 1) + T (ex (rt c) 0) + T (ex (ac c) 0) + T (ex (ac c) 1)
      = z + ∑ e : Fin 8, T e := by
  intro c
  rw [Fin.sum_univ_eight]
  have h : c = 0 ∨ c = 1 ∨ c = 2 ∨ c = 3 := by revert c; decide
  rcases h with rfl | rfl | rfl | rfl
  · show z + T 0 + T 1 + T 6 + T 3 + T 7 + T 2 + T 4 + T 5 = _
    ac_rfl
  · show z + T 2 + T 3 + T 0 + T 5 + T 1 + T 4 + T 6 + T 7 = _
    ac_rfl
  · show z + T 4 + T 5 + T 2 + T 7 + T 3 + T 6 + T 0 + T 1 = _
    ac_rfl
  · show z + T 6 + T 7 + T 4 + T 1 + T 5 + T 0 + T 2 + T 3 = _
    ac_rfl

/-- An expert's product, gated by what a word chooses: only the chosen expert's is left. -/
theorem chosen_sum (x : Fin 256 → EReal) (s : Fin 8 → EReal) (hs : Mix.top s ≠ ⊤ ∧ Mix.top s ≠ ⊥) (a : BitVec 32)
    (we : Fin 8 → Fin 256 → Fin 512 → EReal) (l : Fin 512) :
    (∑ e : Fin 8, ∑ k : Fin 256, (if BitVec.ofNat 32 e.val = a then Mix.soft s e else 0) * x k * we e k l)
      = if h : a.toNat < 8 then Mix.soft s ⟨a.toNat, h⟩ * Mix.lin x (we ⟨a.toNat, h⟩) l else 0 := by
  have hword : ∀ e : Fin 8, (BitVec.ofNat 32 e.val).toNat = e.val := fun e => by
    rw [BitVec.toNat_ofNat]
    exact Nat.mod_eq_of_lt (by have := e.isLt; omega)
  have hout : ∀ e : Fin 8, BitVec.ofNat 32 e.val ≠ a →
      (∑ k : Fin 256, (if BitVec.ofNat 32 e.val = a then Mix.soft s e else 0) * x k * we e k l) = 0 := fun e he => by
    simp only [if_neg he, zero_mul, Finset.sum_const_zero]
  by_cases h : a.toNat < 8
  · rw [dif_pos h, Finset.sum_eq_single ⟨a.toNat, h⟩]
    · unfold Mix.lin
      rw [Mix.soft_mul_sum s hs]
      refine Finset.sum_congr rfl fun k _ => ?_
      rw [if_pos (BitVec.eq_of_toNat_eq (hword ⟨a.toNat, h⟩)), mul_assoc]
    · intro e _ he
      exact hout e fun g => he (Fin.ext ((hword e).symm.trans (congrArg BitVec.toNat g)))
    · intro g
      exact absurd (Finset.mem_univ _) g
  · rw [dif_neg h]
    refine Finset.sum_eq_zero fun e _ => hout e fun g => h ?_
    rw [← g, hword]
    exact e.isLt

/-- A device's output block: the shared product and, expert by expert, the gated products. -/
theorem outOf_sum (c : Dev nD) (x : S512x256.Idx → EReal) (g : S512x8.Idx → EReal) (ws : S256x512.Idx → EReal)
    (W : Dev nD → S2x256x512.Idx → EReal) (r l : Fin 512) :
    outOf (F := Ideal) c x g (W c) ws (k0_pay1 (F := Ideal) (W (lf c))) (k0_pay1 (F := Ideal) (W (rt c))) (k0_pay1 (F := Ideal) (W (ac c))) (ix2 r l)
      = ∑ k : Fin 256, x (ix2 r k) * ws (ix2 k l)
        + ∑ e : Fin 8, term x (g (ix2 r e)) r l fun k => W (home e) (ix3 (seat e) k l) := by
  rw [outOf_apply]
  have h := any_order (fun e => term x (g (ix2 r e)) r l fun k => W (home e) (ix3 (seat e) k l)) (∑ k : Fin 256, x (ix2 r k) * ws (ix2 k l)) c
  simp only [home_ex, seat_ex] at h
  exact h

/-- The same with the gates of the host code, where the token's largest score is finite: the layer of the token's row. -/
theorem outOf_layer (c : Dev nD) (x : S512x256.Idx → EReal) (wr : S256x8.Idx → EReal) (a : S512x1.Idx → BitVec 32) (ws : S256x512.Idx → EReal)
    (W : Dev nD → S2x256x512.Idx → EReal) (r l : Fin 512)
    (hs : Mix.top (Mix.score (fun k => x (ix2 r k)) (fun k e => wr (ix2 k e))) ≠ ⊤ ∧ Mix.top (Mix.score (fun k => x (ix2 r k)) (fun k e => wr (ix2 k e))) ≠ ⊥) :
    outOf (F := Ideal) c x (gatesOf (F := Ideal) x wr a) (W c) ws (k0_pay1 (F := Ideal) (W (lf c))) (k0_pay1 (F := Ideal) (W (rt c)))
        (k0_pay1 (F := Ideal) (W (ac c))) (ix2 r l)
      = Mix.layer (fun k => x (ix2 r k)) (fun k e => wr (ix2 k e)) (a (ix2 r 0)) (fun e k l => W (home e) (ix3 (seat e) k l))
          (fun k l => ws (ix2 k l)) l := by
  rw [outOf_sum]
  unfold Mix.layer Mix.lin term
  simp only [gates_apply]
  exact congrArg (_ + ·) (chosen_sum (fun k => x (ix2 r k)) _ hs (a (ix2 r 0)) (fun e k l => W (home e) (ix3 (seat e) k l)) l)

/-- What a device leaves at a token and a lane. -/
theorem left_apply (m : (ℓ : Loc nD τ sig) → Buf (Elt Ideal) ℓ) (c : Dev nD) (r l : Fin 512)
    (x : S512x256.Idx → EReal) (hx : m ((c : Thread nD τ).loc main_arg0) = x)
    (wr : S256x8.Idx → EReal) (hwr : m ((c : Thread nD τ).loc main_arg1) = wr)
    (a : S512x1.Idx → BitVec 32) (ha : m ((c : Thread nD τ).loc main_arg2) = a)
    (W : Dev nD → S2x256x512.Idx → EReal) (hW : ∀ d : Dev nD, m ((d : Thread nD τ).loc main_arg3) = W d)
    (ws : S256x512.Idx → EReal) (hws : m ((c : Thread nD τ).loc main_arg4) = ws)
    (hs : Mix.top (Mix.score (fun k => x (ix2 r k)) (fun k e => wr (ix2 k e))) ≠ ⊤ ∧ Mix.top (Mix.score (fun k => x (ix2 r k)) (fun k e => wr (ix2 k e))) ≠ ⊥) :
    left m c (ix2 r l) = Mix.layer (fun k => x (ix2 r k)) (fun k e => wr (ix2 k e)) (a (ix2 r 0)) (fun e k l => W (home e) (ix3 (seat e) k l))
          (fun k l => ws (ix2 k l)) l := by
  unfold left sent
  rw [x0_eq, x1_eq, x2_eq, x2_eq, x2_eq, x2_eq, x3_eq, hx, hwr, ha, hW, hW, hW, hW, hws]
  exact outOf_layer c x wr a ws W r l hs

/-- What the precondition says of a token: its largest score is finite. -/
theorem finite_of_pre [Cert.Pre_finite_top_score_KernelIdeal.Facts] (x : S512x256.Idx → EReal) (wr : S256x8.Idx → EReal)
    (a : S512x1.Idx → BitVec 32) (we : S2x256x512.Idx → EReal) (ws : S256x512.Idx → EReal)
    (h : Cert.Pre_finite_top_score_KernelIdeal.fn (F := Ideal) x wr a we ws = fun _ => 1#1) (r : Fin 512) :
    Mix.top (Mix.score (fun k => x (ix2 r k)) (fun k e => wr (ix2 k e))) ≠ ⊤
      ∧ Mix.top (Mix.score (fun k => x (ix2 r k)) (fun k e => wr (ix2 k e))) ≠ ⊥ := by
  have hi : Ideal.ofBits .f32 0x7F800000#32 = ⊤ := by simp [Ideal.ofBits, Ideal.ieee]
  have g : BitVec.ofBool (decide (FloatOps.absf (F := Ideal) (φ := .f32)
      (Finset.univ.fold max (Ideal.ofBits .f32 0xFF800000#32) fun q : Fin 8 => ∑ k : Fin 256, x (ix2 r k) * wr (ix2 k q))
        < Ideal.ofBits .f32 0x7F800000#32)) = 1#1 := by
    refine Eq.trans (Eq.symm ?_) (congrFun h (ix1 r))
    pointwise [Cert.Pre_finite_top_score_KernelIdeal.fn]
  rw [hi, neg_inf] at g
  change BitVec.ofBool (decide (FloatOps.absf (F := Ideal) (φ := .f32) (Mix.top (Mix.score (fun k => x (ix2 r k)) (fun k e => wr (ix2 k e)))) < ⊤)) = 1#1 at g
  generalize Mix.top (Mix.score (fun k => x (ix2 r k)) (fun k e => wr (ix2 k e))) = y at g ⊢
  change BitVec.ofBool (decide (max y (-y) < ⊤)) = 1#1 at g
  constructor <;> rintro rfl <;> simp at g

end Cert.KernelIdeal.Exchange
-- ==== Proof.Ref.lean ====
/- What the reference returns, over the reals, at one token and one output lane. -/
module

public import proofs.«01_k».proof.Proof.Gen.ReferenceIdeal.Run
public import proofs.«01_k».proof.Proof.Mix
public import Idealize.ShloMosaic.Lib.Pointwise

@[expose] public section

noncomputable section

namespace Cert.ReferenceIdeal.Layer

open Idealize.ShloMosaic Cert.ReferenceIdeal
open Facts₀ Facts
open scoped BigOperators

section Any

variable {F : FTy → Type} [FloatOps F]

/-- The tokens' experts, as a row. -/
def choice (a : IVec S2048x1 32) : IVec S2048 32 := shapeCast _ a shapeCasts_S2048x1_S2048

/-- The same as a column. -/
def column (a : IVec S2048x1 32) : IVec S2048x1 32 := broadcastInDim S2048x1 ![0] bcast_S2048_S2048x1_0 (choice a)

/-- Every token's number next to its expert. -/
def places (a : IVec S2048x1 32) : IVec S2048x2 32 :=
  concatenate S2048x2 1 [⟨S2048x1, (broadcastInDim S2048x1 ![0] bcast_S2048_S2048x1_0 (iotaInDim S2048 32 0))⟩, ⟨S2048x1, column a⟩] concatenates_S2048x1_S2048x1_S2048x2_d1

/-- The scores less their row's largest, exponentiated. -/
def exps (s : FVec F S2048x8 .f32) : FVec F S2048x8 .f32 :=
  Host.exp (subf s (broadcastInDim S2048x8 ![0, 1] bcast_S2048x1_S2048x8_0_1 (broadcastInDim S2048x1 ![0] bcast_S2048_S2048x1_0
    (Host.reduce FloatOps.maximumf s (constant S_ .f32 0xFF800000#32) reducesTo_S2048x8_S2048_d1 h_S_))))

/-- The softmax of the tokens' scores. -/
def probs (x : FVec F S2048x256 .f32) (w : FVec F S256x8 .f32) : FVec F S2048x8 .f32 :=
  let e := exps (Host.dotGeneral dot_S2048x256_S256x8_S2048x8_1_0_0_1_n_n none x w)
  Host.divf e (broadcastInDim S2048x8 ![0, 1] bcast_S2048x1_S2048x8_0_1 (broadcastInDim S2048x1 ![0] bcast_S2048_S2048x1_0
    (Host.reduceAdd e (constant S_ .f32 0x00000000#32) reducesTo_S2048x8_S2048_d1 h_S_)))

/-- Which tokens' places lie in the table of softmaxes, and which tokens' experts among the eight. -/
def inTable (a : IVec S2048x1 32) : IVec S2048 1 :=
  Host.reduce IntOp.andi (andi (cmpi .sge (places a) (broadcastInDim S2048x2 ![] bcast_S_S2048x2 (constantI S_ 32 0#32)))
    (cmpi .sle (places a) (broadcastInDim S2048x2 ![0, 1] bcast_S1x2_S2048x2_0_1 (broadcastInDim S1x2 ![1] bcast_S2_S1x2_1 (fun i => lit0 (S2.rowMajor i))))))
    (constantI S_ 1 1#1) reducesTo_S2048x2_S2048_d1 h_S_
def inRange (a : IVec S2048x1 32) : IVec S2048 1 :=
  Host.reduce IntOp.andi (andi (cmpi .sge (column a) (broadcastInDim S2048x1 ![] bcast_S_S2048x1 (constantI S_ 32 0#32)))
    (cmpi .sle (column a) (broadcastInDim S2048x1 ![0, 1] bcast_S1x1_S2048x1_0_1 (broadcastInDim S1x1 ![1] bcast_S1_S1x1_1 (constantI S1 32 7#32)))))
    (constantI S_ 1 1#1) reducesTo_S2048x1_S2048_d1 h_S_

/-- The tokens' gates. -/
def gates (x : FVec F S2048x256 .f32) (w : FVec F S256x8 .f32) (a : IVec S2048x1 32) : FVec F S2048 .f32 :=
  select (inTable a) (Host.gather gather_S2048x8_S2048x2_S2048_n_01_n_n_01_1_11 (probs x w) (places a))
    (broadcastInDim S2048 ![] bcast_S_S2048 (constant S_ .f32 0x00000000#32))

/-- The tokens' experts' weights. -/
def chosen (a : IVec S2048x1 32) (we : FVec F S8x256x512 .f32) : FVec F S2048x256x512 .f32 :=
  select (broadcastInDim S2048x256x512 ![0] bcast_S2048_S2048x256x512_0 (inRange a))
    (Host.gather gather_S8x256x512_S2048x1_S2048x256x512_12_0_n_n_0_1_1256512 we (column a))
    (broadcastInDim S2048x256x512 ![] bcast_S_S2048x256x512 (constant S_ .f32 0x00000000#32))

/-- The reference's result. -/
def whole (x : FVec F S2048x256 .f32) (w : FVec F S256x8 .f32) (a : IVec S2048x1 32) (we : FVec F S8x256x512 .f32) (ws : FVec F S256x512 .f32) :
    FVec F S2048x512 .f32 :=
  addf (Host.dotGeneral dot_S2048x256_S256x512_S2048x512_1_0_0_1_n_n none x ws)
    (mulf (broadcastInDim S2048x512 ![0, 1] bcast_S2048x1_S2048x512_0_1 (broadcastInDim S2048x1 ![0] bcast_S2048_S2048x1_0 (gates x w a)))
      (Host.dotGeneral dot_S2048x256_S2048x256x512_S2048x512_1_1_n_2_0_0 none x (chosen a we)))

set_option maxRecDepth 8192 in
/-- The reference runs to completion, leaving its result and its arguments. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = whole (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

end Any

theorem column_apply (a : IVec S2048x1 32) (r : Fin 2048) : column a (ix2 r 0) = a (ix2 r 0) := by
  pointwise [column, choice]
theorem places_token (a : IVec S2048x1 32) (r : Fin 2048) : places a (ix2 r 0) = BitVec.ofNat 32 r.val := by
  pointwise [places, column, choice]
theorem places_expert (a : IVec S2048x1 32) (r : Fin 2048) : places a (ix2 r 1) = a (ix2 r 0) := by
  pointwise [places, column, choice]

/-- A word is between 0 and a small bound, read with a sign, exactly if it is at most that bound, read without. -/
theorem word_range (w b : BitVec 32) (hb : b.toNat < 2147483648) :
    (IntOp.andi (IntOp.cmpi .sge w 0#32) (IntOp.cmpi .sle w b) = 1#1) ↔ w.toNat ≤ b.toNat := by
  have h0 : (0#32).sle w = decide (0 ≤ w.toInt) := by rw [BitVec.sle_eq_decide]; rfl
  have h1 : w.sle b = decide (w.toInt ≤ b.toInt) := BitVec.sle_eq_decide
  have hw := w.isLt
  have e1 := w.toInt_eq_toNat_cond
  have e2 := b.toInt_eq_toNat_cond
  unfold IntOp.andi IntOp.cmpi
  dsimp only
  rw [h0, h1]
  by_cases p : 0 ≤ w.toInt <;> by_cases q : w.toInt ≤ b.toInt <;> simp only [p, q, decide_true, decide_false] <;> simp <;> omega

/-- All of some bits are set. -/
theorem all_bits {n : ℕ} (f : Fin n → BitVec 1) : Finset.univ.fold IntOp.andi 1#1 f = 1#1 ↔ ∀ x, f x = 1#1 := by
  have h := Finset.fold_op_rel_iff_and (op := (IntOp.andi : BitVec 1 → BitVec 1 → BitVec 1)) (f := f) (b := 1#1) (s := Finset.univ)
    (r := fun _ y => y = 1#1) (fun {_ y z} => by revert y z; decide) (c := 1#1)
  exact h.trans ⟨fun g x => g.2 x (Finset.mem_univ x), fun g => ⟨rfl, fun x _ => g x⟩⟩

theorem inRange_apply (a : IVec S2048x1 32) (r : Fin 2048) : inRange a (ix1 r) = 1#1 ↔ (a (ix2 r 0)).toNat ≤ 7 := by
  refine Iff.trans ?_ (word_range (a (ix2 r 0)) 7#32 (by decide))
  pointwise [inRange, column, choice]
  rw [all_bits]
  exact ⟨fun h => h 0, fun h x => by obtain rfl := Subsingleton.elim x 0; exact h⟩

theorem inTable_apply (a : IVec S2048x1 32) (r : Fin 2048) : inTable a (ix1 r) = 1#1 ↔ (a (ix2 r 0)).toNat ≤ 7 := by
  refine Iff.trans ?_ (word_range (a (ix2 r 0)) 7#32 (by decide))
  pointwise [inTable]
  rw [all_bits]
  have hr : IntOp.andi (IntOp.cmpi .sge (BitVec.ofNat 32 r.val) 0#32) (IntOp.cmpi .sle (BitVec.ofNat 32 r.val) 2047#32) = 1#1 := by
    rw [word_range _ _ (by decide), BitVec.toNat_ofNat]
    have := r.isLt
    show r.val % 4294967296 ≤ 2047
    omega
  constructor
  · intro h
    have := h 1
    rw [places_expert] at this
    exact this
  · intro h x
    fin_cases x
    · show IntOp.andi (IntOp.cmpi .sge (places a (ix2 r 0)) 0#32) (IntOp.cmpi .sle (places a (ix2 r 0)) 2047#32) = 1#1
      rw [places_token]
      exact hr
    · show IntOp.andi (IntOp.cmpi .sge (places a (ix2 r 1)) 0#32) (IntOp.cmpi .sle (places a (ix2 r 1)) 7#32) = 1#1
      rw [places_expert]
      exact h

theorem neg_inf : Ideal.ofBits .f32 0xFF800000#32 = ⊥ := by simp [Ideal.ofBits, Ideal.ieee]

theorem probs_apply (x : FVec Ideal S2048x256 .f32) (w : FVec Ideal S256x8 .f32) (r : Fin 2048) (q : Fin 8) :
    probs (F := Ideal) x w (ix2 r q) = Mix.soft (Mix.score (fun k => x (ix2 r k)) fun k e => w (ix2 k e)) q := by
  pointwise [probs, exps]
  rw [neg_inf]
  rfl

/-- The table of softmaxes read at a token's place, clamped into the table. -/
theorem gather_probs (p : S2048x8.Idx → EReal) (i : IVec S2048x2 32) (r : Fin 2048) :
    Host.gather gather_S2048x8_S2048x2_S2048_n_01_n_n_01_1_11 p i (ix1 r)
      = p (ix2 ⟨min (i (ix2 r 0)).toInt.toNat 2047, by omega⟩ ⟨min (i (ix2 r 1)).toInt.toNat 7, by omega⟩) := by
  have hs : ∀ k : Fin gather_S2048x8_S2048x2_S2048_n_01_n_n_01_1_11.startIndexMap.length,
      gather_S2048x8_S2048x2_S2048_n_01_n_n_01_1_11.siIdx (ix1 r) k = ix2 r ⟨k.val, k.isLt⟩ := fun k =>
    funext fun b => Fin.ext (by fin_cases b <;> rfl)
  unfold Host.gather
  refine congrArg p (funext fun b => Fin.ext ?_)
  unfold GatherDims.operandIdx
  dsimp only
  rw [GatherDims.batchCoord_eq_zero _ _ _ List.not_mem_nil, GatherDims.offCoord_eq_zero _ _ _ (by revert b; decide +kernel)]
  unfold GatherDims.start
  rw [dif_pos (by revert b; decide +kernel), hs]
  fin_cases b <;> rfl

/-- The experts' weights read at a token's expert, clamped among the eight. -/
theorem gather_experts (e : S8x256x512.Idx → EReal) (i : IVec S2048x1 32) (r : Fin 2048) (k : Fin 256) (l : Fin 512) :
    Host.gather gather_S8x256x512_S2048x1_S2048x256x512_12_0_n_n_0_1_1256512 e i (ix3 r k l)
      = e (ix3 ⟨min (i (ix2 r 0)).toInt.toNat 7, by omega⟩ k l) := by
  have hs : ∀ q : Fin gather_S8x256x512_S2048x1_S2048x256x512_12_0_n_n_0_1_1256512.startIndexMap.length,
      gather_S8x256x512_S2048x1_S2048x256x512_12_0_n_n_0_1_1256512.siIdx (ix3 r k l) q = ix2 r ⟨q.val, q.isLt⟩ := fun q =>
    funext fun b => Fin.ext (by fin_cases b <;> rfl)
  unfold Host.gather
  refine congrArg e (funext fun b => Fin.ext ?_)
  unfold GatherDims.operandIdx
  dsimp only
  rw [GatherDims.batchCoord_eq_zero _ _ _ List.not_mem_nil]
  fin_cases b
  · rw [GatherDims.offCoord_eq_zero _ _ _ (by decide +kernel)]
    unfold GatherDims.start
    rw [dif_pos (by decide +kernel), hs]
    rfl
  · unfold GatherDims.start
    rw [dif_neg (by decide +kernel)]
    unfold GatherDims.offCoord
    rw [dif_pos (by decide +kernel)]
    exact Nat.zero_add _
  · unfold GatherDims.start
    rw [dif_neg (by decide +kernel)]
    unfold GatherDims.offCoord
    rw [dif_pos (by decide +kernel)]
    exact Nat.zero_add _

/-- A word below 8 is not moved by the clamp. -/
theorem clamp_word (w : BitVec 32) (h : w.toNat < 8) : min w.toInt.toNat 7 = w.toNat := by
  have e := w.toInt_eq_toNat_cond
  omega

/-- A choice made by a bit. -/
theorem select_bit (b : BitVec 1) (y z : EReal) : Scalar.select b y z = if b = 1#1 then y else z := rfl

theorem gates_apply (x : FVec Ideal S2048x256 .f32) (w : FVec Ideal S256x8 .f32) (a : IVec S2048x1 32) (r : Fin 2048) :
    gates (F := Ideal) x w a (ix1 r) = if h : (a (ix2 r 0)).toNat < 8 then
      Mix.soft (Mix.score (fun k => x (ix2 r k)) fun k e => w (ix2 k e)) ⟨(a (ix2 r 0)).toNat, h⟩ else 0 := by
  pointwise [gates]
  rw [gather_probs, select_bit]
  by_cases h : (a (ix2 r 0)).toNat < 8
  · rw [dif_pos h, if_pos ((inTable_apply a r).mpr (by omega)), ← probs_apply]
    have ht : min (places a (ix2 r 0)).toInt.toNat 2047 = r.val := by
      have hr := r.isLt
      have e := (BitVec.ofNat 32 r.val).toInt_eq_toNat_cond
      rw [BitVec.toNat_ofNat] at e
      rw [places_token]
      omega
    have he : min (places a (ix2 r 1)).toInt.toNat 7 = (a (ix2 r 0)).toNat := by rw [places_expert, clamp_word _ h]
    exact congrArg₂ (fun u v => probs (F := Ideal) x w (ix2 u v)) (Fin.ext ht) (Fin.ext he)
  · rw [dif_neg h, if_neg (fun g => h (by have := (inTable_apply a r).mp g; omega))]

theorem chosen_apply (a : IVec S2048x1 32) (we : FVec Ideal S8x256x512 .f32) (r : Fin 2048) (k : Fin 256) (l : Fin 512) :
    chosen (F := Ideal) a we (ix3 r k l) = if h : (a (ix2 r 0)).toNat < 8 then we (ix3 ⟨(a (ix2 r 0)).toNat, h⟩ k l) else 0 := by
  pointwise [chosen]
  rw [gather_experts, select_bit]
  by_cases h : (a (ix2 r 0)).toNat < 8
  · rw [dif_pos h, if_pos ((inRange_apply a r).mpr (by omega))]
    have he : min (column a (ix2 r 0)).toInt.toNat 7 = (a (ix2 r 0)).toNat := by rw [column_apply, clamp_word _ h]
    exact congrArg (fun u => we (ix3 u k l)) (Fin.ext he)
  · rw [dif_neg h, if_neg (fun g => h (by have := (inRange_apply a r).mp g; omega))]

/-- The reference's result at a token and a lane: the layer of the token's row. -/
theorem whole_apply (x : FVec Ideal S2048x256 .f32) (w : FVec Ideal S256x8 .f32) (a : IVec S2048x1 32)
    (we : FVec Ideal S8x256x512 .f32) (ws : FVec Ideal S256x512 .f32) (r : Fin 2048) (l : Fin 512) :
    whole (F := Ideal) x w a we ws (ix2 r l) = Mix.layer (fun k => x (ix2 r k)) (fun k e => w (ix2 k e)) (a (ix2 r 0))
      (fun e k l => we (ix3 e k l)) (fun k l => ws (ix2 k l)) l := by
  pointwise [whole]
  simp only [gates_apply, chosen_apply]
  unfold Mix.layer Mix.lin
  by_cases h : (a (ix2 r 0)).toNat < 8
  · simp only [dif_pos h]
  · simp only [dif_neg h, zero_mul]

end Cert.ReferenceIdeal.Layer
-- ==== Proof.Value.lean ====
/- The value claim: where every token's largest score is finite, each device ends with its block of what the reference returns. -/
module

public import proofs.«01_k».proof.Defs
public import proofs.«01_k».proof.Proof.Launch
public import proofs.«01_k».proof.Proof.Equation
public import proofs.«01_k».proof.Proof.Ref
public import Idealize.ShloMosaic.Lib.LayoutAt

@[expose] public section

noncomputable section

namespace Cert.Value

open Idealize.ShloMosaic Idealize.SL.Sem
open Cert.KernelIdeal.Exchange (home seat)

/-- A token's number among all the tokens. -/
def token (c : Fin 4) (r : Fin 512) : Fin 2048 := ⟨512 * c.val + r.val, by omega⟩

/-- A device's block of the tokens, of their experts, of the results, at one of its tokens. -/
theorem block_rows {α : Type} {n : ℕ} (c : Fin 4) (X : (⟨2, ![2048, n]⟩ : Shape).Idx → α)
    (h : Layout.Tiles ⟨2, ![512, n]⟩ ⟨2, ![2048, n]⟩ 0 4) (r : Fin 512) (k : Fin n) :
    Layout.block ⟨2, ![512, n]⟩ ⟨2, ![2048, n]⟩ 0 4 c X h (ix2 r k) = X (ix2 (token c r) k) := by
  have ht : (token c r).val = 512 * c.val + r.val := rfl
  shard_ext

/-- The block of the device that holds an expert, at the expert's slot. -/
theorem block_experts {α : Type} (e : Fin 8) (X : (⟨3, ![8, 256, 512]⟩ : Shape).Idx → α)
    (h : Layout.Tiles ⟨3, ![2, 256, 512]⟩ ⟨3, ![8, 256, 512]⟩ 0 4) (k : Fin 256) (l : Fin 512) :
    Layout.block ⟨3, ![2, 256, 512]⟩ ⟨3, ![8, 256, 512]⟩ 0 4 (home e) X h (ix3 (seat e) k l) = X (ix3 e k l) := by
  have hh : (home e).val = e.val / 2 := rfl
  have hs : (seat e).val = e.val % 2 := rfl
  shard_ext

/-- Each device's result is its block of the reference's, where the largest scores of its tokens are finite. -/
theorem left_eq_block [Cert.ReferenceIdeal.Facts]
    (m : (ℓ : Loc Cert.KernelIdeal.nD Cert.KernelIdeal.τ Cert.KernelIdeal.sig) → Buf (Elt Ideal) ℓ)
    (X : (⟨2, ![2048, 256]⟩ : Shape).Idx → EReal) (wr : (⟨2, ![256, 8]⟩ : Shape).Idx → EReal) (A : (⟨2, ![2048, 1]⟩ : Shape).Idx → BitVec 32)
    (E : (⟨3, ![8, 256, 512]⟩ : Shape).Idx → EReal) (ws : (⟨2, ![256, 512]⟩ : Shape).Idx → EReal)
    (h0 : ∀ c : Dev Cert.KernelIdeal.nD, m ((c.tc : Thread Cert.KernelIdeal.nD Cert.KernelIdeal.τ).loc Cert.KernelIdeal.main_arg0) = Layout.block ⟨2, ![512, 256]⟩ ⟨2, ![2048, 256]⟩ 0 4 c X)
    (h1 : ∀ c : Dev Cert.KernelIdeal.nD, m ((c.tc : Thread Cert.KernelIdeal.nD Cert.KernelIdeal.τ).loc Cert.KernelIdeal.main_arg1) = wr)
    (h2 : ∀ c : Dev Cert.KernelIdeal.nD, m ((c.tc : Thread Cert.KernelIdeal.nD Cert.KernelIdeal.τ).loc Cert.KernelIdeal.main_arg2) = Layout.block ⟨2, ![512, 1]⟩ ⟨2, ![2048, 1]⟩ 0 4 c A)
    (h3 : ∀ c : Dev Cert.KernelIdeal.nD, m ((c.tc : Thread Cert.KernelIdeal.nD Cert.KernelIdeal.τ).loc Cert.KernelIdeal.main_arg3) = Layout.block ⟨3, ![2, 256, 512]⟩ ⟨3, ![8, 256, 512]⟩ 0 4 c E)
    (h4 : ∀ c : Dev Cert.KernelIdeal.nD, m ((c.tc : Thread Cert.KernelIdeal.nD Cert.KernelIdeal.τ).loc Cert.KernelIdeal.main_arg4) = ws)
    [Cert.Pre_finite_top_score_KernelIdeal.Facts] (hp : Pre_KernelIdeal_finite_top_score_KernelIdeal m) (c : Dev Cert.KernelIdeal.nD) :
    Cert.KernelIdeal.Exchange.left m c
      = Layout.block ⟨2, ![512, 512]⟩ ⟨2, ![2048, 512]⟩ 0 4 c (Cert.ReferenceIdeal.Layer.whole (F := Ideal) X wr A E ws) := by
  funext i
  obtain ⟨r, l, rfl⟩ : ∃ r l, i = ix2 r l := ⟨i 0, i 1, by funext a; fin_cases a <;> rfl⟩
  have hf := Cert.KernelIdeal.Exchange.finite_of_pre _ _ _ _ _ (hp c) r
  rw [h0 c, h1 c] at hf
  refine (Cert.KernelIdeal.Exchange.left_apply m c r l _ (h0 c) _ (h1 c) _ (h2 c) _ h3 _ (h4 c) hf).trans ?_
  refine Eq.trans ?_ (block_rows c (Cert.ReferenceIdeal.Layer.whole (F := Ideal) X wr A E ws) _ r l).symm
  refine Eq.trans ?_ (Cert.ReferenceIdeal.Layer.whole_apply X wr A E ws (token c r) l).symm
  simp only [block_rows, block_experts]

/-- The two programs, run from memories that hold the same arrays, end with the same result. -/
theorem algebraic [Cert.Pre_finite_top_score_KernelIdeal.Facts] : algebraic_KernelIdeal_ReferenceIdeal_pre_finite_top_score_KernelIdeal := by
  intro m g m' g' hp h
  refine ⟨_, (θ_run _ _ _).mono (fun r hr c => ?_) (Cert.KernelIdeal.Exchange.run_main m g),
    (θ_run _ _ _).mono (fun r hr => hr 0) (Cert.ReferenceIdeal.Layer.run m' g')⟩
  exact ⟨(hr.1 c).1.trans (left_eq_block m _ _ _ _ _ (fun c => (h c).1) (fun c => (h c).2.1) (fun c => (h c).2.2.1)
    (fun c => (h c).2.2.2.1) (fun c => (h c).2.2.2.2) hp c), (hr.1 c).2⟩

end Cert.Value
-- ==== Proof.lean ====
/- The certificate's claim, put together from the modules under `Proof`: the frames of the kernel, of the kernel over the
   reals and of the reference, and the value of the kernel over the reals. -/
module

public import proofs.«01_k».proof.Defs
public import proofs.«01_k».proof.Proof.Gen.Kernel
public import proofs.«01_k».proof.Proof.Gen.Kernel.Launch
public import proofs.«01_k».proof.Proof.Gen.KernelIdeal
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_finite_top_score_KernelIdeal
public import proofs.«01_k».proof.Proof.Gen.Pre_finite_top_score_ReferenceIdeal
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that the statement certifies. -/
theorem claim : Cert.Claim :=
  ⟨Cert.Kernel.Gen.facts, Cert.KernelIdeal.Gen.facts, Cert.ReferenceIdeal.Gen.facts,
    Cert.Pre_finite_top_score_KernelIdeal.Gen.facts, Cert.Pre_finite_top_score_ReferenceIdeal.Gen.facts,
    Cert.Frames.kernel, Cert.Frames.kernel_ideal,
    @Cert.Frames.kernel_ideal_finite Cert.Pre_finite_top_score_KernelIdeal.Gen.facts, Cert.Frames.reference,
    @Cert.Frames.reference_finite Cert.Pre_finite_top_score_ReferenceIdeal.Gen.facts, trivial,
    @Cert.Value.algebraic Cert.Pre_finite_top_score_KernelIdeal.Gen.facts⟩

end Cert.Proof

end
